-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v28_3)) (v1 : (c : Dev Cert.Kernel5Ideal.nD) → Buf (Elt Ideal) ((c.tc : Thread Cert.Kernel5Ideal.nD Cert.Kernel5Ideal.τ).loc Cert.Kernel5Ideal.main_v28_5)) (v2 : (c : Dev Cert.Kernel5Ideal.nD) → Buf (Elt Ideal) ((c.tc : Thread Cert.Kernel5Ideal.nD Cert.Kernel5Ideal.τ).loc Cert.Kernel5Ideal.main_v28_0)) (v3 : (c : Dev Cert.Kernel5Ideal.nD) → Buf (Elt Ideal) ((c.tc : Thread Cert.Kernel5Ideal.nD Cert.Kernel5Ideal.τ).loc Cert.Kernel5Ideal.main_v28_4)) (v4 : (c : Dev Cert.Kernel5Ideal.nD) → Buf (Elt Ideal) ((c.tc : Thread Cert.Kernel5Ideal.nD Cert.Kernel5Ideal.τ).loc Cert.Kernel5Ideal.main_v28_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28_3) = v0 c
          ∧ r.2.mem ((c.tc : Thread Cert.Kernel5Ideal.nD Cert.Kernel5Ideal.τ).loc Cert.Kernel5Ideal.main_v28_5) = v1 c
          ∧ r.2.mem ((c.tc : Thread Cert.Kernel5Ideal.nD Cert.Kernel5Ideal.τ).loc Cert.Kernel5Ideal.main_v28_0) = v2 c
          ∧ r.2.mem ((c.tc : Thread Cert.Kernel5Ideal.nD Cert.Kernel5Ideal.τ).loc Cert.Kernel5Ideal.main_v28_4) = v3 c
          ∧ r.2.mem ((c.tc : Thread Cert.Kernel5Ideal.nD Cert.Kernel5Ideal.τ).loc Cert.Kernel5Ideal.main_v28_9) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_v70) = v3 c
          ∧ r.2.mem ((c.tc : Thread Cert.Reference5Ideal.nD Cert.Reference5Ideal.τ).loc Cert.Reference5Ideal.main_v71) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x1280 : Shape := ⟨2, ![16384, 1280]⟩
abbrev S8x256x1024 : Shape := ⟨3, ![8, 256, 1024]⟩
abbrev S1x1024 : Shape := ⟨2, ![1, 1024]⟩
abbrev S1x1024x512 : Shape := ⟨3, ![1, 1024, 512]⟩
abbrev S1024x512 : Shape := ⟨2, ![1024, 512]⟩
abbrev S1024x1024 : Shape := ⟨2, ![1024, 1024]⟩
abbrev S1024 : Shape := ⟨1, ![1024]⟩
abbrev S16384x512 : Shape := ⟨2, ![16384, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩
abbrev S1024x256 : Shape := ⟨2, ![1024, 256]⟩
abbrev S1024x1 : Shape := ⟨2, ![1024, 1]⟩

abbrev nBuf : Space → Nat
  | .hbm => 12
  | .vmem => 9
  | .smem => 0
  | _ => 0

abbrev bufTy : (tb : Table) → Fin (tcTables nBuf tb) → BufTy
  | .hbm, ⟨0, _⟩ => ⟨S16384x1280, .f32⟩
  | .hbm, ⟨1, _⟩ => ⟨S8x256x1024, .f32⟩
  | .hbm, ⟨2, _⟩ => ⟨S1x1024, .f32⟩
  | .hbm, ⟨3, _⟩ => ⟨S1x1024x512, .f32⟩
  | .hbm, ⟨4, _⟩ => ⟨S1x1024x512, .f32⟩
  | .hbm, ⟨5, _⟩ => ⟨S1024x512, .f32⟩
  | .hbm, ⟨6, _⟩ => ⟨S1024x512, .f32⟩
  | .hbm, ⟨7, _⟩ => ⟨S1024x1024, .f32⟩
  | .hbm, ⟨8, _⟩ => ⟨S1024x1024, .bf16⟩
  | .hbm, ⟨9, _⟩ => ⟨S1024, .f32⟩
  | .hbm, ⟨10, _⟩ => ⟨S1x1024, .f32⟩
  | .hbm, ⟨11, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x1024, .bf16⟩
  | .local _ .vmem, ⟨6, _⟩ => ⟨S1024x512, .f32⟩
  | .local _ .vmem, ⟨7, _⟩ => ⟨S1024x512, .f32⟩
  | .local _ .vmem, ⟨8, _⟩ => ⟨S256x1024, .bf16⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  ![v1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x1280 : Shape := ⟨2, ![16384, 1280]⟩
abbrev S8x256x1024 : Shape := ⟨3, ![8, 256, 1024]⟩
abbrev S1x1024 : Shape := ⟨2, ![1, 1024]⟩
abbrev S1x1024x512 : Shape := ⟨3, ![1, 1024, 512]⟩
abbrev S16384x512 : Shape := ⟨2, ![16384, 512]⟩
abbrev S8x2048x512 : Shape := ⟨3, ![8, 2048, 512]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x2048x4x128 : Shape := ⟨4, ![8, 2048, 4, 128]⟩
abbrev S1024x512 : Shape := ⟨2, ![1024, 512]⟩
abbrev S8x256x512 : Shape := ⟨3, ![8, 256, 512]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x1280, .f32⟩
  | .hbm, ⟨1, _⟩ => ⟨S8x256x1024, .f32⟩
  | .hbm, ⟨2, _⟩ => ⟨S1x1024, .f32⟩
  | .hbm, ⟨3, _⟩ => ⟨S1x1024x512, .f32⟩
  | .hbm, ⟨4, _⟩ => ⟨S1x1024x512, .f32⟩
  | .hbm, ⟨5, _⟩ => ⟨S16384x512, .f32⟩
  | .hbm, ⟨6, _⟩ => ⟨S8x2048x512, .f32⟩
  | .hbm, ⟨7, _⟩ => ⟨S1024, .f32⟩
  | .hbm, ⟨8, _⟩ => ⟨S8x256x1024, .f32⟩
  | .hbm, ⟨9, _⟩ => ⟨S_, .f32⟩
  | .hbm, ⟨10, _⟩ => ⟨S8x256, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S8x256x1, .f32⟩
  | .hbm, ⟨19, _⟩ => ⟨S8x256x1024, .f32⟩
  | .hbm, ⟨20, _⟩ => ⟨S8x256x1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S8x2048x4x128, .f32⟩
  | .hbm, ⟨25, _⟩ => ⟨S_, .f32⟩
  | .hbm, ⟨26, _⟩ => ⟨S8x2048x4x128, .f32⟩
  | .hbm, ⟨27, _⟩ => ⟨S8x2048x4x128, .f32⟩
  | .hbm, ⟨28, _⟩ => ⟨S1024x512, .f32⟩
  | .hbm, ⟨29, _⟩ => ⟨S8x256x512, .f32⟩
  | .hbm, ⟨30, _⟩ => ⟨S8x256x4x128, .f32⟩
  | .hbm, ⟨31, _⟩ => ⟨S1024x512, .f32⟩
  | .hbm, ⟨32, _⟩ => ⟨S8x256x512, .f32⟩
  | .hbm, ⟨33, _⟩ => ⟨S8x256x4x128, .f32⟩
  | .hbm, ⟨34, _⟩ => ⟨S8x4x2048x256, .f32⟩
  | .hbm, ⟨35, _⟩ => ⟨S_, .f32⟩
  | .hbm, ⟨36, _⟩ => ⟨S8x4x2048, .f32⟩
  | .hbm, ⟨37, _⟩ => ⟨S_, .f32⟩
  | .hbm, ⟨38, _⟩ => ⟨S8x4x2048, .f32⟩
  | .hbm, ⟨39, _⟩ => ⟨S8x4x2048, .f32⟩
  | .hbm, ⟨40, _⟩ => ⟨S8x4x2048x1, .f32⟩
  | .hbm, ⟨41, _⟩ => ⟨S8x4x2048x256, .f32⟩
  | .hbm, ⟨42, _⟩ => ⟨S8x4x2048x256, .f32⟩
  | .hbm, ⟨43, _⟩ => ⟨S8x4x2048x256, .f32⟩
  | .hbm, ⟨44, _⟩ => ⟨S_, .f32⟩
  | .hbm, ⟨45, _⟩ => ⟨S8x4x2048, .f32⟩
  | .hbm, ⟨46, _⟩ => ⟨S8x4x2048x1, .f32⟩
  | .hbm, ⟨47, _⟩ => ⟨S8x4x2048x256, .f32⟩
  | .hbm, ⟨48, _⟩ => ⟨S8x4x2048x256, .f32⟩
  | .hbm, ⟨49, _⟩ => ⟨S8x4x128x2048, .f32⟩
  | .hbm, ⟨50, _⟩ => ⟨S8x2048x4x128, .f32⟩
  | .hbm, ⟨51, _⟩ => ⟨S16384x512, .f32⟩
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .f32⟩
  | .local _ .vmem, ⟨4, _⟩ => ⟨S1024x2816, .f32⟩
  | .local _ .vmem, ⟨5, _⟩ => ⟨S2816x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S1024x2816, .f32⟩
  | .hbm, ⟨35, _⟩ => ⟨S16384x2816, .f32⟩
  | .hbm, ⟨36, _⟩ => ⟨S16384x2816, .f32⟩
  | .hbm, ⟨37, _⟩ => ⟨S2816x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S16384x512 : Shape := ⟨2, ![16384, 512]⟩
abbrev S1x1024x6680 : Shape := ⟨3, ![1, 1024, 6680]⟩
abbrev S1x512x1024 : Shape := ⟨3, ![1, 512, 1024]⟩
abbrev S1x1024x1024 : Shape := ⟨3, ![1, 1024, 1024]⟩
abbrev S1024x6680 : Shape := ⟨2, ![1024, 6680]⟩
abbrev S1024x3072 : Shape := ⟨2, ![1024, 3072]⟩
abbrev S1024 : Shape := ⟨1, ![1024]⟩
abbrev S512x1024 : Shape := ⟨2, ![512, 1024]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 24
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x512, .f32⟩
  | .hbm, ⟨3, _⟩ => ⟨S16384x512, .bf16⟩
  | .hbm, ⟨4, _⟩ => ⟨S16384x512, .f32⟩
  | .hbm, ⟨5, _⟩ => ⟨S1x1024x6680, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024x6680, .f32⟩
  | .hbm, ⟨11, _⟩ => ⟨S1024x3072, .f32⟩
  | .hbm, ⟨12, _⟩ => ⟨S1024x3072, .bf16⟩
  | .hbm, ⟨13, _⟩ => ⟨S1024, .f32⟩
  | .hbm, ⟨14, _⟩ => ⟨S1x1024, .f32⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S1024x512, .f32⟩
  | .local _ .vmem, ⟨8, _⟩ => ⟨S1024x512, .f32⟩
  | .local _ .vmem, ⟨9, _⟩ => ⟨S1024x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S1x1024 : Shape := ⟨2, ![1, 1024]⟩
abbrev S16384x512 : Shape := ⟨2, ![16384, 512]⟩
abbrev S1x1024x6680 : Shape := ⟨3, ![1, 1024, 6680]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x6680 : Shape := ⟨2, ![1024, 6680]⟩
abbrev S16384x6680 : Shape := ⟨2, ![16384, 6680]⟩
abbrev S16384x3072 : Shape := ⟨2, ![16384, 3072]⟩
abbrev S16384x3x1024 : Shape := ⟨3, ![16384, 3, 1024]⟩
abbrev S16384x1x1024 : Shape := ⟨3, ![16384, 1, 1024]⟩
abbrev S512x1024 : Shape := ⟨2, ![512, 1024]⟩
abbrev S1024x1024 : Shape := ⟨2, ![1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x512, .f32⟩
  | .hbm, ⟨3, _⟩ => ⟨S16384x512, .bf16⟩
  | .hbm, ⟨4, _⟩ => ⟨S16384x512, .f32⟩
  | .hbm, ⟨5, _⟩ => ⟨S1x1024x6680, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1024x6680, .f32⟩
  | .hbm, ⟨28, _⟩ => ⟨S16384x6680, .f32⟩
  | .hbm, ⟨29, _⟩ => ⟨S16384x3072, .f32⟩
  | .hbm, ⟨30, _⟩ => ⟨S16384x3072, .f32⟩
  | .hbm, ⟨31, _⟩ => ⟨S16384x3072, .f32⟩
  | .hbm, ⟨32, _⟩ => ⟨S_, .f32⟩
  | .hbm, ⟨33, _⟩ => ⟨S16384x3072, .f32⟩
  | .hbm, ⟨34, _⟩ => ⟨S16384x3072, .f32⟩
  | .hbm, ⟨35, _⟩ => ⟨S_, .f32⟩
  | .hbm, ⟨36, _⟩ => ⟨S16384x3072, .f32⟩
  | .hbm, ⟨37, _⟩ => ⟨S16384x3072, .f32⟩
  | .hbm, ⟨38, _⟩ => ⟨S16384x3x1024, .f32⟩
  | .hbm, ⟨39, _⟩ => ⟨S16384x1x1024, .f32⟩
  | .hbm, ⟨40, _⟩ => ⟨S16384x1024, .f32⟩
  | .hbm, ⟨41, _⟩ => ⟨S512x1024, .f32⟩
  | .hbm, ⟨42, _⟩ => ⟨S16384x1024, .f32⟩
  | .hbm, ⟨43, _⟩ => ⟨S16384x1024, .f32⟩
  | .hbm, ⟨44, _⟩ => ⟨S16384x1x1024, .f32⟩
  | .hbm, ⟨45, _⟩ => ⟨S16384x1024, .f32⟩
  | .hbm, ⟨46, _⟩ => ⟨S16384x512, .f32⟩
  | .hbm, ⟨47, _⟩ => ⟨S512x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1x1024, .f32⟩
  | .hbm, ⟨52, _⟩ => ⟨S16384x1024, .f32⟩
  | .hbm, ⟨53, _⟩ => ⟨S512x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1024x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .f32⟩
  | .local _ .vmem, ⟨4, _⟩ => ⟨S1024x2816, .f32⟩
  | .local _ .vmem, ⟨5, _⟩ => ⟨S2816x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S1024x2816, .f32⟩
  | .hbm, ⟨35, _⟩ => ⟨S16384x2816, .f32⟩
  | .hbm, ⟨36, _⟩ => ⟨S16384x2816, .f32⟩
  | .hbm, ⟨37, _⟩ => ⟨S2816x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== Kernel5.lean ====
abbrev S16384x1024 : Shape := ⟨2, ![16384, 1024]⟩
abbrev S1x1024 : Shape := ⟨2, ![1, 1024]⟩
abbrev S1x1024x6680 : Shape := ⟨3, ![1, 1024, 6680]⟩
abbrev S1024x1024 : Shape := ⟨2, ![1024, 1024]⟩
abbrev S512x1024 : Shape := ⟨2, ![512, 1024]⟩
abbrev S1x1792 : Shape := ⟨2, ![1, 1792]⟩
abbrev S1x512 : Shape := ⟨2, ![1, 512]⟩
abbrev S256x1536 : Shape := ⟨2, ![256, 1536]⟩
abbrev S1024x6680 : Shape := ⟨2, ![1024, 6680]⟩
abbrev S1024x1792 : Shape := ⟨2, ![1024, 1792]⟩
abbrev S1024x512 : Shape := ⟨2, ![1024, 512]⟩
abbrev S1024x24 : Shape := ⟨2, ![1024, 24]⟩
abbrev S1024x3x2x4 : Shape := ⟨4, ![1024, 3, 2, 4]⟩
abbrev S1024x2x3x4 : Shape := ⟨4, ![1024, 2, 3, 4]⟩
abbrev S1024x2x12 : Shape := ⟨3, ![1024, 2, 12]⟩
abbrev S_ : Shape := ⟨0, ![]⟩
abbrev S1024x2x128 : Shape := ⟨3, ![1024, 2, 128]⟩
abbrev S1024x256 : Shape := ⟨2, ![1024, 256]⟩
abbrev S1024x1280 : Shape := ⟨2, ![1024, 1280]⟩
abbrev S1024 : Shape := ⟨1, ![1024]⟩
abbrev S1792 : Shape := ⟨1, ![1792]⟩
abbrev S512 : Shape := ⟨1, ![512]⟩
abbrev S16384x1280 : Shape := ⟨2, ![16384, 1280]⟩
abbrev S8x8x512x256 : Shape := ⟨4, ![8, 8, 512, 256]⟩
abbrev S16384x512 : Shape := ⟨2, ![16384, 512]⟩
abbrev S16x1024 : Shape := ⟨2, ![16, 1024]⟩
abbrev S512x1280 : Shape := ⟨2, ![512, 1280]⟩
abbrev S1x2x512x256 : Shape := ⟨4, ![1, 2, 512, 256]⟩
abbrev S512x512 : Shape := ⟨2, ![512, 512]⟩
abbrev S512x1 : Shape := ⟨2, ![512, 1]⟩
abbrev S512x128 : Shape := ⟨2, ![512, 128]⟩
abbrev S512x256 : Shape := ⟨2, ![512, 256]⟩
abbrev S1x1x512x256 : Shape := ⟨4, ![1, 1, 512, 256]⟩
abbrev S16 : Shape := ⟨1, ![16]⟩
abbrev S16x1 : Shape := ⟨2, ![16, 1]⟩
abbrev S528x1024 : Shape := ⟨2, ![528, 1024]⟩
abbrev S528x1792 : Shape := ⟨2, ![528, 1792]⟩
abbrev S512x1792 : Shape := ⟨2, ![512, 1792]⟩
abbrev S512x1536 : Shape := ⟨2, ![512, 1536]⟩

abbrev nBuf : Space → Nat
  | .hbm => 51
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x6680, .f32⟩
  | .hbm, ⟨3, _⟩ => ⟨S1024x1024, .f32⟩
  | .hbm, ⟨4, _⟩ => ⟨S512x1024, .f32⟩
  | .hbm, ⟨5, _⟩ => ⟨S1x1792, .f32⟩
  | .hbm, ⟨6, _⟩ => ⟨S1x512, .f32⟩
  | .hbm, ⟨7, _⟩ => ⟨S256x1536, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1024x6680, .f32⟩
  | .hbm, ⟨12, _⟩ => ⟨S1024x1792, .f32⟩
  | .hbm, ⟨13, _⟩ => ⟨S1024x512, .f32⟩
  | .hbm, ⟨14, _⟩ => ⟨S1024x24, .f32⟩
  | .hbm, ⟨15, _⟩ => ⟨S1024x512, .f32⟩
  | .hbm, ⟨16, _⟩ => ⟨S1024x3x2x4, .f32⟩
  | .hbm, ⟨17, _⟩ => ⟨S1024x2x3x4, .f32⟩
  | .hbm, ⟨18, _⟩ => ⟨S1024x2x12, .f32⟩
  | .hbm, ⟨19, _⟩ => ⟨S_, .i32⟩
  | .hbm, ⟨20, _⟩ => ⟨S_, .f32⟩
  | .hbm, ⟨21, _⟩ => ⟨S1024x2x128, .f32⟩
  | .hbm, ⟨22, _⟩ => ⟨S1024x256, .f32⟩
  | .hbm, ⟨23, _⟩ => ⟨S1024x1280, .f32⟩
  | .hbm, ⟨24, _⟩ => ⟨S1024x1280, .bf16⟩
  | .hbm, ⟨25, _⟩ => ⟨S1024, .f32⟩
  | .hbm, ⟨26, _⟩ => ⟨S1x1024, .f32⟩
  | .hbm, ⟨27, _⟩ => ⟨S1024x1792, .bf16⟩
  | .hbm, ⟨28, _⟩ => ⟨S1024x1024, .bf16⟩
  | .hbm, ⟨29, _⟩ => ⟨S512x1024, .bf16⟩
  | .hbm, ⟨30, _⟩ => ⟨S1792, .f32⟩
  | .hbm, ⟨31, _⟩ => ⟨S1x1792, .f32⟩
  | .hbm, ⟨32, _⟩ => ⟨S256x1536, .bf16⟩
  | .hbm, ⟨33, _⟩ => ⟨S512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S512, .f32⟩
  | .hbm, ⟨38, _⟩ => ⟨S1x512, .f32⟩
  | .hbm, ⟨39, _⟩ => ⟨S512, .f32⟩
  | .hbm, ⟨40, _⟩ => ⟨S1x512, .f32⟩
  | .hbm, ⟨41, _⟩ => ⟨S16384x1280, .f32⟩
  | .hbm, ⟨42, _⟩ => ⟨S16384x1024, .bf16⟩
  | .hbm, ⟨43, _⟩ => ⟨S8x8x512x256, .bf16⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x1792, .bf16⟩
  | .local _ .vmem, ⟨6, _⟩ => ⟨S1024x1280, .bf16⟩
  | .local _ .vmem, ⟨7, _⟩ => ⟨S1024x1024, .bf16⟩
  | .local _ .vmem, ⟨8, _⟩ => ⟨S512x1024, .bf16⟩
  | .local _ .vmem, ⟨9, _⟩ => ⟨S1x1792, .f32⟩
  | .local _ .vmem, ⟨10, _⟩ => ⟨S256x1536, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x1280, .f32⟩
  | .local _ .vmem, ⟨16, _⟩ => ⟨S512x1280, .f32⟩
  | .local _ .vmem, ⟨17, _⟩ => ⟨S512x1024, .bf16⟩
  | .local _ .vmem, ⟨18, _⟩ => ⟨S512x1024, .bf16⟩
  | .local _ .vmem, ⟨19, _⟩ => ⟨S1x2x512x256, .bf16⟩
  | .local _ .vmem, ⟨20, _⟩ => ⟨S1x2x512x256, .bf16⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev main_v28_4 : Ref sig .tc := ⟨.hbm, 45, rfl⟩
abbrev main_v28_5 : Ref sig .tc := ⟨.hbm, 46, rfl⟩
abbrev main_v28_6 : Ref sig .tc := ⟨.hbm, 47, rfl⟩
abbrev main_v28_7 : Ref sig .tc := ⟨.hbm, 48, rfl⟩
abbrev main_v28_8 : Ref sig .tc := ⟨.hbm, 49, rfl⟩
abbrev main_v28_9 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference5Ideal.lean ====
abbrev S16384x1024 : Shape := ⟨2, ![16384, 1024]⟩
abbrev S1x1024 : Shape := ⟨2, ![1, 1024]⟩
abbrev S1x1024x6680 : Shape := ⟨3, ![1, 1024, 6680]⟩
abbrev S1024x1024 : Shape := ⟨2, ![1024, 1024]⟩
abbrev S512x1024 : Shape := ⟨2, ![512, 1024]⟩
abbrev S1x1792 : Shape := ⟨2, ![1, 1792]⟩
abbrev S1x512 : Shape := ⟨2, ![1, 512]⟩
abbrev S256x1536 : Shape := ⟨2, ![256, 1536]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x6680 : Shape := ⟨2, ![1024, 6680]⟩
abbrev S16384x6680 : Shape := ⟨2, ![16384, 6680]⟩
abbrev S16384x1792 : Shape := ⟨2, ![16384, 1792]⟩
abbrev S8x2048x1792 : Shape := ⟨3, ![8, 2048, 1792]⟩
abbrev S8x2047x1792 : Shape := ⟨3, ![8, 2047, 1792]⟩
abbrev S1792 : Shape := ⟨1, ![1792]⟩
abbrev S1x1x1792 : Shape := ⟨3, ![1, 1, 1792]⟩
abbrev S16384x512 : Shape := ⟨2, ![16384, 512]⟩
abbrev S16384x64 : Shape := ⟨2, ![16384, 64]⟩
abbrev S16384x128 : Shape := ⟨2, ![16384, 128]⟩
abbrev S16384x24 : Shape := ⟨2, ![16384, 24]⟩
abbrev S16384x3x2x4 : Shape := ⟨4, ![16384, 3, 2, 4]⟩
abbrev S16384x2x3x4 : Shape := ⟨4, ![16384, 2, 3, 4]⟩
abbrev S16384x2x12 : Shape := ⟨3, ![16384, 2, 12]⟩
abbrev S16384x2x128 : Shape := ⟨3, ![16384, 2, 128]⟩
abbrev S16384x256 : Shape := ⟨2, ![16384, 256]⟩
abbrev S16384x1280 : Shape := ⟨2, ![16384, 1280]⟩
abbrev S16384x1536 : Shape := ⟨2, ![16384, 1536]⟩
abbrev S512 : Shape := ⟨1, ![512]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x6680, .f32⟩
  | .hbm, ⟨3, _⟩ => ⟨S1024x1024, .f32⟩
  | .hbm, ⟨4, _⟩ => ⟨S512x1024, .f32⟩
  | .hbm, ⟨5, _⟩ => ⟨S1x1792, .f32⟩
  | .hbm, ⟨6, _⟩ => ⟨S1x512, .f32⟩
  | .hbm, ⟨7, _⟩ => ⟨S256x1536, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1024x6680, .f32⟩
  | .hbm, ⟨29, _⟩ => ⟨S16384x6680, .f32⟩
  | .hbm, ⟨30, _⟩ => ⟨S16384x1792, .f32⟩
  | .hbm, ⟨31, _⟩ => ⟨S8x2048x1792, .f32⟩
  | .hbm, ⟨32, _⟩ => ⟨S8x2047x1792, .f32⟩
  | .hbm, ⟨33, _⟩ => ⟨S_, .i32⟩
  | .hbm, ⟨34, _⟩ => ⟨S_, .f32⟩
  | .hbm, ⟨35, _⟩ => ⟨S8x2048x1792, .f32⟩
  | .hbm, ⟨36, _⟩ => ⟨S8x2048x1792, .f32⟩
  | .hbm, ⟨37, _⟩ => ⟨S1792, .f32⟩
  | .hbm, ⟨38, _⟩ => ⟨S1x1x1792, .f32⟩
  | .hbm, ⟨39, _⟩ => ⟨S8x2048x1792, .f32⟩
  | .hbm, ⟨40, _⟩ => ⟨S8x2048x1792, .f32⟩
  | .hbm, ⟨41, _⟩ => ⟨S8x2048x1792, .f32⟩
  | .hbm, ⟨42, _⟩ => ⟨S16384x1792, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x64, .f32⟩
  | .hbm, ⟨47, _⟩ => ⟨S16384x64, .f32⟩
  | .hbm, ⟨48, _⟩ => ⟨S16384x128, .f32⟩
  | .hbm, ⟨49, _⟩ => ⟨S16384x24, .f32⟩
  | .hbm, ⟨50, _⟩ => ⟨S16384x3x2x4, .f32⟩
  | .hbm, ⟨51, _⟩ => ⟨S16384x2x3x4, .f32⟩
  | .hbm, ⟨52, _⟩ => ⟨S16384x2x12, .f32⟩
  | .hbm, ⟨53, _⟩ => ⟨S_, .i32⟩
  | .hbm, ⟨54, _⟩ => ⟨S_, .f32⟩
  | .hbm, ⟨55, _⟩ => ⟨S16384x2x128, .f32⟩
  | .hbm, ⟨56, _⟩ => ⟨S16384x256, .f32⟩
  | .hbm, ⟨57, _⟩ => ⟨S16384x512, .f32⟩
  | .hbm, ⟨58, _⟩ => ⟨S16384x512, .f32⟩
  | .hbm, ⟨59, _⟩ => ⟨S16384x1280, .f32⟩
  | .hbm, ⟨60, _⟩ => ⟨S16384x64, .f32⟩
  | .hbm, ⟨61, _⟩ => ⟨S16384x128, .f32⟩
  | .hbm, ⟨62, _⟩ => ⟨S16384x128, .f32⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S_, .f32⟩
  | .hbm, ⟨67, _⟩ => ⟨S16384x128, .f32⟩
  | .hbm, ⟨68, _⟩ => ⟨S16384x128, .f32⟩
  | .hbm, ⟨69, _⟩ => ⟨S16384x256, .f32⟩
  | .hbm, ⟨70, _⟩ => ⟨S16384x1536, .f32⟩
  | .hbm, ⟨71, _⟩ => ⟨S512, .f32⟩
  | .hbm, ⟨72, _⟩ => ⟨S16384x512, .f32⟩
  | .hbm, ⟨73, _⟩ => ⟨S1x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S_, .f32⟩
  | .hbm, ⟨79, _⟩ => ⟨S16384x512, .f32⟩
  | .hbm, ⟨80, _⟩ => ⟨S16384x512, .f32⟩
  | .hbm, ⟨81, _⟩ => ⟨S_, .f32⟩
  | .hbm, ⟨82, _⟩ => ⟨S16384x512, .f32⟩
  | .hbm, ⟨83, _⟩ => ⟨S16384x512, .f32⟩
  | .hbm, ⟨84, _⟩ => ⟨S_, .f32⟩
  | .hbm, ⟨85, _⟩ => ⟨S16384x512, .f32⟩
  | .hbm, ⟨86, _⟩ => ⟨S16384x512, .f32⟩
  | .hbm, ⟨87, _⟩ => ⟨S512, .f32⟩
  | .hbm, ⟨88, _⟩ => ⟨S1x512, .f32⟩
  | .hbm, ⟨89, _⟩ => ⟨S16384x512, .f32⟩
  | .hbm, ⟨90, _⟩ => ⟨S16384x512, .f32⟩
  | .hbm, ⟨91, _⟩ => ⟨S_, .f32⟩
  | .hbm, ⟨92, _⟩ => ⟨S16384x512, .f32⟩
  | .hbm, ⟨93, _⟩ => ⟨S16384x512, .f32⟩
  | .hbm, ⟨94, _⟩ => ⟨S16384x512, .f32⟩
  | .hbm, ⟨95, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_2 : Ref sig .tc := ⟨.hbm, 53, rfl⟩
abbrev main_call1_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_5 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_cst_7 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_8 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Proof.Rows.lean ====
/- The row functions of the layer over the extended reals: what one row of the normalisation and of the
   gated feed-forward step computes, and the contraction over the hidden width cut into tiles. -/
module

public import Idealize.ShloMosaic.Lib.Pointwise

@[expose] public section

set_option maxRecDepth 16384

noncomputable section

namespace Cert.Layer

open Idealize.ShloMosaic

/-- The root-mean-square normalisation of one row of 1024 entries, scaled entry by entry by a gain. -/
def rms (x g : Fin 1024 → EReal) (k : Fin 1024) : EReal :=
  x k * Ideal.rsqrt (Ideal.div (∑ i : Fin 1024, x i * x i) (Ideal.ofBits .f32 0x44800000#32)
    + Ideal.ofBits .f32 0x358637BD#32) * g k

/-- One hidden entry of the gated feed-forward step on a normalised row: the gate's value times its
    logistic, times the second projection. -/
def hidden (h : Fin 1024 → EReal) (wg wu : Fin 1024 → Fin 2816 → EReal) (f : Fin 2816) : EReal :=
  (∑ k : Fin 1024, h k * wg k f) * Ideal.logistic (∑ k : Fin 1024, h k * wg k f) * ∑ k : Fin 1024, h k * wu k f

/-- The half-step feed-forward of one row, with its residual. -/
def ffn (x g : Fin 1024 → EReal) (wg wu : Fin 1024 → Fin 2816 → EReal) (wd : Fin 2816 → Fin 1024 → EReal)
    (k : Fin 1024) : EReal :=
  x k + Ideal.ofBits .f32 0x3F000000#32 * ∑ f : Fin 2816, hidden (rms x g) wg wu f * wd f k

/-- A sum over the hidden width is the sum of its eleven tiles of 256, added from the left. -/
theorem sum_hidden (F : Fin 2816 → EReal) :
    ∑ f : Fin 2816, F f = (∑ t : Fin 256, F ⟨t.val, by omega⟩) + (∑ t : Fin 256, F ⟨256 + t.val, by omega⟩)
      + (∑ t : Fin 256, F ⟨512 + t.val, by omega⟩) + (∑ t : Fin 256, F ⟨768 + t.val, by omega⟩)
      + (∑ t : Fin 256, F ⟨1024 + t.val, by omega⟩) + (∑ t : Fin 256, F ⟨1280 + t.val, by omega⟩)
      + (∑ t : Fin 256, F ⟨1536 + t.val, by omega⟩) + (∑ t : Fin 256, F ⟨1792 + t.val, by omega⟩)
      + (∑ t : Fin 256, F ⟨2048 + t.val, by omega⟩) + (∑ t : Fin 256, F ⟨2304 + t.val, by omega⟩)
      + (∑ t : Fin 256, F ⟨2560 + t.val, by omega⟩) := by
  have eleven (G : Fin 11 → EReal) : ∑ j : Fin 11, G j
      = G 0 + G 1 + G 2 + G 3 + G 4 + G 5 + G 6 + G 7 + G 8 + G 9 + G 10 := by
    rw [Fin.sum_univ_castSucc, Fin.sum_univ_castSucc, Fin.sum_univ_castSucc, Fin.sum_univ_eight]
    rfl
  have tile (j : Fin 11) (n : ℕ) (hj : j.val * 256 = n) (h : ∀ t : Fin 256, n + t.val < 2816)
      (h' : ∀ t : Fin 256, j.val * 256 + t.val < 2816) :
      ∑ t : Fin 256, F ⟨j.val * 256 + t.val, h' t⟩ = ∑ t : Fin 256, F ⟨n + t.val, h t⟩ := by
    subst hj; rfl
  rw [Fin.sum_univ_tiles 11 256 rfl F, eleven]
  rw [tile 1 256 rfl (fun t => by omega), tile 2 512 rfl (fun t => by omega), tile 3 768 rfl (fun t => by omega),
    tile 4 1024 rfl (fun t => by omega), tile 5 1280 rfl (fun t => by omega), tile 6 1536 rfl (fun t => by omega),
    tile 7 1792 rfl (fun t => by omega), tile 8 2048 rfl (fun t => by omega), tile 9 2304 rfl (fun t => by omega),
    tile 10 2560 rfl (fun t => by omega), tile 0 0 rfl (fun t => by omega)]
  simp only [Nat.zero_add]

/-- One branch of the merge on a normalised row: the logistic of the gate's projection times the branch's own
    projection. -/
def branch (h : Fin 1024 → EReal) (w : Fin 1024 → Fin 1024 → EReal) (y : Fin 512 → EReal)
    (b : Fin 512 → Fin 1024 → EReal) (k : Fin 1024) : EReal :=
  Ideal.logistic (∑ i : Fin 1024, h i * w i k) * ∑ j : Fin 512, y j * b j k

/-- The merge of one row: the three gated branches added, projected, and added to the residual. The gate
    projections stand side by side in `w`. -/
def merge (x g : Fin 1024 → EReal) (w : Fin 1024 → Fin 3072 → EReal) (y0 y1 y2 : Fin 512 → EReal)
    (b0 b1 b2 : Fin 512 → Fin 1024 → EReal) (wo : Fin 1024 → Fin 1024 → EReal) (k : Fin 1024) : EReal :=
  x k + ∑ j : Fin 1024, (branch (rms x g) (fun i f => w i ⟨f.val, by omega⟩) y0 b0 j
    + branch (rms x g) (fun i f => w i ⟨1024 + f.val, by omega⟩) y1 b1 j
    + branch (rms x g) (fun i f => w i ⟨2048 + f.val, by omega⟩) y2 b2 j) * wo j k

end Cert.Layer

end
-- ==== Proof.AttentionRows.lean ====
/- One head of softmax attention of one query over the 256 memory tokens, over the extended reals. -/
module

public import proofs.«01_k».proof.Proof.Rows

@[expose] public section

set_option maxRecDepth 16384

noncomputable section

namespace Cert.Layer

open Idealize.ShloMosaic

/-- The scaled query's product with key `s`. -/
def score (q : Fin 128 → EReal) (K : Fin 256 → Fin 128 → EReal) (s : Fin 256) : EReal :=
  ∑ d : Fin 128, q d * Ideal.ofBits .f32 0x3DB504F3#32 * K s d

/-- The exponential of a score less the largest score. -/
def weight (q : Fin 128 → EReal) (K : Fin 256 → Fin 128 → EReal) (s : Fin 256) : EReal :=
  Ideal.exp (score q K s - Finset.univ.fold max (Ideal.ofBits .f32 0xFF800000#32) fun s' => score q K s')

/-- One head of attention: the values weighted by the softmax of the scores. -/
def attend (q : Fin 128 → EReal) (K V : Fin 256 → Fin 128 → EReal) (d : Fin 128) : EReal :=
  ∑ s : Fin 256, Ideal.div (weight q K s) (∑ s' : Fin 256, weight q K s') * V s d

/-- A projection of a normalised memory row. -/
def project (x g : Fin 1024 → EReal) (w : Fin 1024 → EReal) : EReal := ∑ i : Fin 1024, rms x g i * w i

end Cert.Layer

end
-- ==== Proof.AttentionBlock.lean ====
/- What one block of the memory attention call computes: the projections kept for a batch, and the heads of
   1024 queries over them. -/
module

public import Idealize.ShloMosaic.Lib.Pipeline.ReadBack
public import proofs.«01_k».proof.Proof.Gen.KernelIdeal.Value
public import proofs.«01_k».proof.Proof.AttentionRows
public import Idealize.ShloMosaic.Lib.Pipeline.ValueKit
public import Idealize.ShloMosaic.Lib.Pointwise

@[expose] public section

set_option maxRecDepth 16384

noncomputable section

namespace Cert.Layer.Attention

open Idealize.ShloMosaic Cert.KernelIdeal Cert.KernelIdeal.Gen

/-- The kept projections: memory token `s`, normalised, against column `k` of the joined weights. -/
theorem kept_apply (x : FVec Ideal S1x256x1024 .f32) (g : FVec Ideal S1x1024 .f32) (w : FVec Ideal S1024x1024 .bf16)
    (s : Fin 256) (k : Fin 1024) :
    k0_pay2 (F := Ideal) x g w (ix2 s k)
      = project (fun i => x (ix3 0 s i)) (fun i => g (ix2 0 i)) (fun i => w (ix2 i k)) := by
  simp only [project, rms]
  pointwise [k0_pay2]

/-- One head of a block of queries. -/
theorem head_apply (q : FVec Ideal S1024x128 .f32) (K V : FVec Ideal S256x128 .bf16) (r : Fin 1024) (d : Fin 128) :
    k0_pay3 (F := Ideal) q K V (ix2 r d)
      = attend (fun i => q (ix2 r i)) (fun s i => K (ix2 s i)) (fun s i => V (ix2 s i)) d := by
  simp only [attend, weight, score]
  pointwise [k0_pay3]

/-- The four heads side by side, each the same function of its queries, keys and values. -/
theorem heads_eq (q0 q1 q2 q3 : FVec Ideal S1024x128 .f32) (K0 V0 K1 V1 K2 V2 K3 V3 : FVec Ideal S256x128 .bf16) :
    k0_pay1 (F := Ideal) (k0_pay3 q0 K0 V0) (k0_pay5 (k0_pay4 q1 K1) V1) (k0_pay6 q2 K2 V2) (k0_pay7 q3 K3) V3
      = concatenate S1024x512 1 [⟨S1024x128, k0_pay3 (F := Ideal) q0 K0 V0⟩, ⟨S1024x128, k0_pay3 (F := Ideal) q1 K1 V1⟩,
          ⟨S1024x128, k0_pay3 (F := Ideal) q2 K2 V2⟩, ⟨S1024x128, k0_pay3 (F := Ideal) q3 K3 V3⟩]
          concatenates_S1024x128_S1024x128_S1024x128_S1024x128_S1024x512_d1 := rfl

/-- The block the body stores, from queries `q` and the kept projections `kv` (keys in the first 512 columns,
    values in the last). -/
def heads (q : FVec Ideal S1024x512 .f32) (kv : FVec Ideal S256x1024 .bf16) : FVec Ideal S1024x512 .f32 :=
  k0_pay1 (F := Ideal)
    (k0_pay3 (View.ld q (Rect.unit (s := S1024x512) ![0, 0] S1024x128.size inb_S1024x512_S1024x128_0_0))
      (View.ld kv (Rect.unit (s := S256x1024) ![0, 0] S256x128.size inb_S256x1024_S256x128_0_0))
      (View.ld kv (Rect.unit (s := S256x1024) ![0, 512] S256x128.size inb_S256x1024_S256x128_0_512)))
    (k0_pay5 (k0_pay4 (View.ld q (Rect.unit (s := S1024x512) ![0, 128] S1024x128.size inb_S1024x512_S1024x128_0_128))
        (View.ld kv (Rect.unit (s := S256x1024) ![0, 128] S256x128.size inb_S256x1024_S256x128_0_128)))
      (View.ld kv (Rect.unit (s := S256x1024) ![0, 640] S256x128.size inb_S256x1024_S256x128_0_640)))
    (k0_pay6 (View.ld q (Rect.unit (s := S1024x512) ![0, 256] S1024x128.size inb_S1024x512_S1024x128_0_256))
      (View.ld kv (Rect.unit (s := S256x1024) ![0, 256] S256x128.size inb_S256x1024_S256x128_0_256))
      (View.ld kv (Rect.unit (s := S256x1024) ![0, 768] S256x128.size inb_S256x1024_S256x128_0_768)))
    (k0_pay7 (View.ld q (Rect.unit (s := S1024x512) ![0, 384] S1024x128.size inb_S1024x512_S1024x128_0_384))
      (View.ld kv (Rect.unit (s := S256x1024) ![0, 384] S256x128.size inb_S256x1024_S256x128_0_384)))
    (View.ld kv (Rect.unit (s := S256x1024) ![0, 896] S256x128.size inb_S256x1024_S256x128_0_896))

/-- Entry `(r, k)` of the stored block is head `k / 128` of query `r` at `k % 128`. -/
theorem heads_apply (q : FVec Ideal S1024x512 .f32) (kv : FVec Ideal S256x1024 .bf16) (r : Fin 1024) (k : Fin 512) :
    heads q kv (ix2 r k)
      = attend (fun i => q (ix2 r ⟨k.val / 128 * 128 + i.val, by omega⟩))
          (fun s i => kv (ix2 s ⟨k.val / 128 * 128 + i.val, by omega⟩))
          (fun s i => kv (ix2 s ⟨512 + (k.val / 128 * 128 + i.val), by omega⟩)) ⟨k.val % 128, by omega⟩ := by
  unfold heads
  rw [heads_eq]
  pointwise [head_apply]
  split
  · have h : k.val / 128 = 0 := by omega
    have h' : k.val % 128 = k.val := by omega
    simp only [h, h', Nat.zero_mul, Nat.zero_add]
  split
  · have h : k.val / 128 = 1 := by omega
    have h' : k.val % 128 = k.val - 128 := by omega
    simp only [h, h', Nat.one_mul, ← Nat.add_assoc, Nat.reduceAdd]
  split
  · have h : k.val / 128 = 2 := by omega
    have h' : k.val % 128 = k.val - 128 - 128 := by omega
    simp only [h, h', ← Nat.add_assoc, Nat.reduceMul, Nat.reduceAdd]
  · have h : k.val / 128 = 3 := by omega
    have h' : k.val % 128 = k.val - 128 - 128 - 128 := by omega
    simp only [h, h', ← Nat.add_assoc, Nat.reduceMul, Nat.reduceAdd]

variable (m : (ℓ : Loc nD τ sig) → Buf (Elt Ideal) ℓ)

open Idealize.ShloMosaic.TcCoe Idealize.SL.Sem

/-- At a batch's first point the block is the heads over the projections made there. -/
theorem stored_first (c : Dev nD) (t : Fin cfg0.N) (h : t.val % 2 = 0) :
    (outsAt0 m c t.val t.isLt).1 = heads (X0_0 m c t) (k0_pay2 (F := Ideal) (iblk m c 1 t) (iblk m c 2 t) (iblk m c 3 t)) := by
  rw [outsAt0_A m c t h]
  frame_out
  simp only [View.readCov_eq_canon']
  frame_out
  generalize k0_pay2 (F := Ideal) (iblk m c 1 t) (iblk m c 2 t) (iblk m c 3 t) = kv
  generalize X0_0 m c t = q
  rfl

/-- What a batch's first point keeps. -/
theorem kept_first (c : Dev nD) (t : Fin cfg0.N) (h : t.val % 2 = 0) :
    (outsAt0 m c t.val t.isLt).2 = k0_pay2 (F := Ideal) (iblk m c 1 t) (iblk m c 2 t) (iblk m c 3 t) := by
  rw [outsAt0_A m c t h]
  frame_out

/-- At a batch's second point the block is the heads over what the first point kept. -/
theorem stored_second (c : Dev nD) (t : Fin cfg0.N) (h : ¬t.val % 2 = 0) :
    (outsAt0 m c t.val t.isLt).1
      = heads (X0_0 m c t) (outsAt0 m c (t.val - 1) (Nat.lt_of_le_of_lt (Nat.sub_le _ _) t.isLt)).2 := by
  rw [outsAt0_B m c t h]
  frame_out
  simp only [read_unread_whole]
  generalize (outsAt0 m c (t.val - 1) _).2 = kv
  generalize X0_0 m c t = q
  rfl

end Cert.Layer.Attention

end
-- ==== Proof.AttentionArray.lean ====
/- The array after the memory attention call, row by row. -/
module

public import proofs.«01_k».proof.Proof.AttentionBlock
public import Idealize.ShloMosaic.Lib.StableHlo.ReadAt

@[expose] public section

set_option maxRecDepth 16384

noncomputable section

namespace Cert.Layer.Attention

open Idealize.ShloMosaic Idealize.ShloMosaic.TcCoe Idealize.SL.Sem Cert.KernelIdeal Cert.KernelIdeal.Gen
open Idealize.ShloMosaic.Pipeline (Dat)

/-- The call's result as a function of its arguments: in every row the four heads of that row's query (columns
    512 to 1023 of the first argument) over the projected memory of the row's batch. -/
def spec (a0 : FVec Ideal S16384x1280 .f32) (a1 : FVec Ideal S8x256x1024 .f32) (a2 : FVec Ideal S1x1024 .f32)
    (a3 a4 : FVec Ideal S1x1024x512 .f32) : FVec Ideal S16384x512 .f32 := fun y =>
  attend (fun i => a0 (ix2 (n0 := 16384) (y 0) ⟨512 + ((y 1).val / 128 * 128 + i.val), by idx_bounds_all; omega⟩))
    (fun s i => project (fun e => a1 (ix3 ⟨(y 0).val / 2048, by idx_bounds_all; omega⟩ s e)) (fun e => a2 (ix2 0 e))
      (fun e => a3 (ix3 0 e ⟨(y 1).val / 128 * 128 + i.val, by idx_bounds_all; omega⟩)))
    (fun s i => project (fun e => a1 (ix3 ⟨(y 0).val / 2048, by idx_bounds_all; omega⟩ s e)) (fun e => a2 (ix2 0 e))
      (fun e => a4 (ix3 0 e ⟨(y 1).val / 128 * 128 + i.val, by idx_bounds_all; omega⟩)))
    ⟨(y 1).val % 128, by omega⟩

variable (m : (ℓ : Loc nD τ sig) → Buf (Elt Ideal) ℓ)

/-- Where each window's block lies at each grid point. -/
theorem idx : ∀ t : Fin cfg0.N, win0_0.index t = ![t.val, 1] ∧ win0_1.index t = ![t.val / 2, 0, 0]
    ∧ win0_2.index t = ![0, 0] ∧ win0_3.index t = ![0, 0] ∧ win0_4.index t = ![t.val, 0] :=
  (by decide +kernel : ∀ t : Fin grid0.N, _)

/-- There are 16 grid points. -/
theorem points (t : Fin cfg0.N) : t.val < 16 := t.isLt

/-- The block of queries a point reads. -/
theorem queries_apply (c : Dev nD) (t : Fin cfg0.N) (r : Fin 1024) (k : Fin 512) :
    X0_0 m c t (ix2 r k)
      = m ((c : Thread nD τ).loc main_arg0)
          (ix2 (n0 := 16384) (n1 := 1280) ⟨1024 * t.val + r.val, by have := points t; omega⟩ ⟨512 + k.val, by omega⟩) := by
  unfold X0_0 Pipeline.Window.fill
  rw [dif_pos (moved0_0 t _)]
  blk_point [iblk, V, idx t]

/-- The joined weights a point reads: the keys' weights, then the values'. -/
theorem weights_apply (c : Dev nD) (t : Fin cfg0.N) (i k : Fin 1024) :
    iblk m c 3 t (ix2 i k)
      = if h : k.val < 512 then m ((c : Thread nD τ).loc main_arg3) (ix3 (n0 := 1) (n1 := 1024) (n2 := 512) 0 i ⟨k.val, h⟩)
        else m ((c : Thread nD τ).loc main_arg4) (ix3 (n0 := 1) (n1 := 1024) (n2 := 512) 0 i ⟨k.val - 512, by omega⟩) := by
  trans V m c main_v3 (ix2 (n0 := 1024) (n1 := 1024) i k)
  · unfold iblk
    blk_simp [idx t]
    blk_point [idx t]
  · unfold V
    after_reads_at
    split <;> after_reads_at

/-- The keys kept for a batch. -/
theorem keys_apply (c : Dev nD) (t : Fin cfg0.N) (s : Fin 256) (j : Fin 512) :
    k0_pay2 (F := Ideal) (iblk m c 1 t) (iblk m c 2 t) (iblk m c 3 t) (ix2 s ⟨j.val, by omega⟩)
      = project (fun e => m ((c : Thread nD τ).loc main_arg1)
            (ix3 (n0 := 8) (n1 := 256) (n2 := 1024) ⟨t.val / 2, by have := points t; omega⟩ s e))
          (fun e => m ((c : Thread nD τ).loc main_arg2) (ix2 (n0 := 1) (n1 := 1024) 0 e))
          (fun e => m ((c : Thread nD τ).loc main_arg3) (ix3 (n0 := 1) (n1 := 1024) (n2 := 512) 0 e j)) := by
  rw [kept_apply]
  simp only [weights_apply]
  simp only [dif_pos j.isLt]
  blk_point [iblk, V, idx t]

/-- The values kept for a batch. -/
theorem values_apply (c : Dev nD) (t : Fin cfg0.N) (s : Fin 256) (j : Fin 512) :
    k0_pay2 (F := Ideal) (iblk m c 1 t) (iblk m c 2 t) (iblk m c 3 t) (ix2 s ⟨512 + j.val, by omega⟩)
      = project (fun e => m ((c : Thread nD τ).loc main_arg1)
            (ix3 (n0 := 8) (n1 := 256) (n2 := 1024) ⟨t.val / 2, by have := points t; omega⟩ s e))
          (fun e => m ((c : Thread nD τ).loc main_arg2) (ix2 (n0 := 1) (n1 := 1024) 0 e))
          (fun e => m ((c : Thread nD τ).loc main_arg4) (ix3 (n0 := 1) (n1 := 1024) (n2 := 512) 0 e j)) := by
  rw [kept_apply]
  simp only [weights_apply]
  simp only [dif_neg (show ¬512 + j.val < 512 by omega), Nat.add_sub_cancel_left]
  blk_point [iblk, V, idx t]

/-- The block left at a point, entry by entry. -/
theorem stored_apply (c : Dev nD) (t : Fin cfg0.N) (r : Fin 1024) (k : Fin 512) :
    (outsAt0 m c t.val t.isLt).1 (ix2 r k)
      = spec (m ((c : Thread nD τ).loc main_arg0)) (m ((c : Thread nD τ).loc main_arg1)) (m ((c : Thread nD τ).loc main_arg2))
          (m ((c : Thread nD τ).loc main_arg3)) (m ((c : Thread nD τ).loc main_arg4))
          (ix2 (n0 := 16384) ⟨1024 * t.val + r.val, by have := points t; omega⟩ k) := by
  have ht := points t
  have kv : ∃ u : Fin cfg0.N, u.val / 2 = t.val / 2 ∧ (outsAt0 m c t.val t.isLt).1
      = heads (X0_0 m c t) (k0_pay2 (F := Ideal) (iblk m c 1 u) (iblk m c 2 u) (iblk m c 3 u)) := by
    by_cases h : t.val % 2 = 0
    · exact ⟨t, rfl, stored_first m c t h⟩
    · have h' : t.val - 1 < cfg0.N := Nat.lt_of_le_of_lt (Nat.sub_le _ _) t.isLt
      have h1 : (t.val - 1) % 2 = 0 := by omega
      have h2 : (t.val - 1) / 2 = t.val / 2 := by omega
      refine ⟨⟨t.val - 1, h'⟩, h2, ?_⟩
      rw [stored_second m c t h, ← kept_first m c ⟨t.val - 1, h'⟩ h1]
  obtain ⟨u, hu, e⟩ := kv
  have hb : (1024 * t.val + r.val) / 2048 = t.val / 2 := by omega
  rw [e, heads_apply]
  simp only [queries_apply, spec]
  congr 1
  · funext s i
    rw [keys_apply m c u s ⟨k.val / 128 * 128 + i.val, by omega⟩]
    simp only [hu, ← hb]
    rfl
  · funext s i
    rw [values_apply m c u s ⟨k.val / 128 * 128 + i.val, by omega⟩]
    simp only [hu, ← hb]
    rfl

/-- The array after the run is the specified one. -/
theorem final (c : Dev nD) : (dats m 0 c).arrAt 4 (cfgs 0).N
    = spec (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 4 _ (by decide +kernel) fun t _ y => ?_
  blk_simp
  rw [after0_4]
  change (outsAt0 m c t.val t.isLt).1 (y : S1024x512.Idx) = _
  have h := points t
  idx_vars y
  rw [stored_apply]
  unfold spec
  blk_point [idx t]

end Cert.Layer.Attention

end
-- ==== Proof.AttentionReference.lean ====
/- What the memory attention's reference computes, entry by entry. -/
module

public import proofs.«01_k».proof.Proof.Gen.ReferenceIdeal.Read
public import proofs.«01_k».proof.Proof.AttentionRows
public import Idealize.ShloMosaic.Lib.Pointwise

@[expose] public section

set_option maxRecDepth 16384

noncomputable section

namespace Cert.Layer.Attention

open Idealize.ShloMosaic Cert.ReferenceIdeal Cert.ReferenceIdeal.Read

/-- The reference's normalised memory. -/
theorem ref_norm_apply (x1 : FVec Ideal S8x256x1024 .f32) (x2 : FVec Ideal S1x1024 .f32) (b : Fin 8) (s : Fin 256)
    (e : Fin 1024) :
    val_main_v15 (F := Ideal) x1 x2 (ix3 b s e) = rms (fun i => x1 (ix3 b s i)) (fun i => x2 (ix2 0 i)) e := by
  simp only [rms]
  pointwise [val_main_v15, val_main_v14, val_main_v13, val_main_v12, val_main_v11, val_main_v10, val_main_v9, val_main_v8,
    val_main_v7, val_main_v6, val_main_v5, val_main_v4, val_main_v3, val_main_v2, val_main_cst, val_main_cst_0,
    val_main_cst_1]

/-- The reference's keys. -/
theorem ref_keys_apply (x1 : FVec Ideal S8x256x1024 .f32) (x2 : FVec Ideal S1x1024 .f32) (x3 : FVec Ideal S1x1024x512 .f32)
    (b : Fin 8) (s : Fin 256) (h : Fin 4) (d : Fin 128) :
    val_main_v21 (F := Ideal) x1 x2 x3 (ix4 b s h d)
      = project (fun i => x1 (ix3 b s i)) (fun i => x2 (ix2 0 i))
          (fun i => x3 (ix3 0 i ⟨h.val * 128 + d.val, by omega⟩)) := by
  simp only [project]
  pointwise [val_main_v21, val_main_v20, val_main_v19, ref_norm_apply]

/-- The reference's values. -/
theorem ref_values_apply (x1 : FVec Ideal S8x256x1024 .f32) (x2 : FVec Ideal S1x1024 .f32) (x4 : FVec Ideal S1x1024x512 .f32)
    (b : Fin 8) (s : Fin 256) (h : Fin 4) (d : Fin 128) :
    val_main_v24 (F := Ideal) x1 x2 x4 (ix4 b s h d)
      = project (fun i => x1 (ix3 b s i)) (fun i => x2 (ix2 0 i))
          (fun i => x4 (ix3 0 i ⟨h.val * 128 + d.val, by omega⟩)) := by
  simp only [project]
  pointwise [val_main_v24, val_main_v23, val_main_v22, ref_norm_apply]

/-- The reference's scores. -/
theorem ref_scores_apply (x0 : FVec Ideal S16384x1280 .f32) (x1 : FVec Ideal S8x256x1024 .f32) (x2 : FVec Ideal S1x1024 .f32)
    (x3 : FVec Ideal S1x1024x512 .f32) (b : Fin 8) (h : Fin 4) (q : Fin 2048) (s : Fin 256) :
    val_main_v25 (F := Ideal) x0 x1 x2 x3 (ix4 b h q s)
      = score (fun d => x0 (ix2 ⟨b.val * 2048 + q.val, by omega⟩ ⟨512 + (h.val * 128 + d.val), by omega⟩))
          (fun s d => val_main_v21 (F := Ideal) x1 x2 x3 (ix4 b s h d)) s := by
  generalize hK : val_main_v21 (F := Ideal) x1 x2 x3 = K
  simp only [score]
  pointwise [val_main_v25, val_main_v18, val_main_v17, val_main_v16, val_main_v1, val_main_v0, val_main_cst_2, hK]

/-- The largest of a row of scores: the fold starts at its own floor, so a second floor adds nothing. -/
theorem max_floor {n : ℕ} (a : EReal) (f : Fin n → EReal) :
    max a (Finset.univ.fold max a f) = Finset.univ.fold max a f :=
  max_eq_right ((Finset.le_fold_max a).mpr (Or.inl le_rfl))

/-- The host's row maximum. -/
theorem row_max (S : FVec Ideal S8x4x2048x256 .f32) (a : FVec Ideal S_ .f32) (b : Fin 8) (h : Fin 4) (q : Fin 2048) :
    Host.reduce FloatOps.maximumf S a Gen.reducesTo_S8x4x2048x256_S8x4x2048_d3 Gen.h_S_ (ix3 b h q)
      = Finset.univ.fold max (a (Shape.Idx.first Gen.h_S_)) fun s : Fin 256 => S (ix4 b h q s) := by
  pointwise

/-- A maximum with the host's broadcast floor. -/
theorem over_floor (S : FVec Ideal S8x4x2048 .f32) (b : Fin 8) (h : Fin 4) (q : Fin 2048) :
    maximumf (val_main_v27 (F := Ideal)) S (ix3 b h q) = max (Ideal.ofBits .f32 0xFF800000#32) (S (ix3 b h q)) := by
  pointwise [val_main_v27, val_main_cst_4]

/-- The floor the row maximum starts at. -/
theorem floor_eq : val_main_cst_3 (F := Ideal) (Shape.Idx.first Gen.h_S_) = Ideal.ofBits .f32 0xFF800000#32 := by
  pointwise [val_main_cst_3]

section Softmax
variable (x0 : FVec Ideal S16384x1280 .f32) (x1 : FVec Ideal S8x256x1024 .f32) (x2 : FVec Ideal S1x1024 .f32)
  (x3 x4 : FVec Ideal S1x1024x512 .f32)

/-- The reference's largest scores. -/
theorem ref_max_apply (b : Fin 8) (h : Fin 4) (q : Fin 2048) :
    val_main_v28 (F := Ideal) x0 x1 x2 x3 (ix3 b h q)
      = Finset.univ.fold max (Ideal.ofBits .f32 0xFF800000#32)
          fun s => val_main_v25 (F := Ideal) x0 x1 x2 x3 (ix4 b h q s) := by
  unfold val_main_v28 val_main_v26
  generalize val_main_v25 (F := Ideal) x0 x1 x2 x3 = S
  rw [over_floor, row_max, floor_eq, max_floor]

/-- The reference's exponentials. -/
theorem ref_exp_apply (b : Fin 8) (h : Fin 4) (q : Fin 2048) (s : Fin 256) :
    val_main_v32 (F := Ideal) x0 x1 x2 x3 (ix4 b h q s)
      = weight (fun d => x0 (ix2 ⟨b.val * 2048 + q.val, by omega⟩ ⟨512 + (h.val * 128 + d.val), by omega⟩))
          (fun s d => val_main_v21 (F := Ideal) x1 x2 x3 (ix4 b s h d)) s := by
  unfold val_main_v32 val_main_v31 val_main_v30 val_main_v29
  have hm := ref_max_apply x0 x1 x2 x3
  generalize val_main_v28 (F := Ideal) x0 x1 x2 x3 = M at hm
  simp only [weight, ← ref_scores_apply]
  generalize val_main_v25 (F := Ideal) x0 x1 x2 x3 = S at hm
  pointwise [hm]

/-- The reference's softmax. -/
theorem ref_softmax_apply (b : Fin 8) (h : Fin 4) (q : Fin 2048) (s : Fin 256) :
    val_main_v36 (F := Ideal) x0 x1 x2 x3 (ix4 b h q s)
      = Ideal.div (val_main_v32 (F := Ideal) x0 x1 x2 x3 (ix4 b h q s))
          (∑ s' : Fin 256, val_main_v32 (F := Ideal) x0 x1 x2 x3 (ix4 b h q s')) := by
  unfold val_main_v36 val_main_v35 val_main_v34 val_main_v33
  generalize val_main_v32 (F := Ideal) x0 x1 x2 x3 = S
  pointwise [val_main_cst_5]

/-- The reference's weighted values. -/
theorem ref_mix_apply (b : Fin 8) (h : Fin 4) (q : Fin 2048) (d : Fin 128) :
    val_main_v38 (F := Ideal) x0 x1 x2 x3 x4 (ix4 b q h d)
      = ∑ s : Fin 256, val_main_v36 (F := Ideal) x0 x1 x2 x3 (ix4 b h q s) * val_main_v24 (F := Ideal) x1 x2 x4 (ix4 b s h d) := by
  unfold val_main_v38 val_main_v37
  generalize val_main_v36 (F := Ideal) x0 x1 x2 x3 = P
  generalize val_main_v24 (F := Ideal) x1 x2 x4 = V
  simp only [mul_comm (P _)]
  pointwise

/-- The reference's result. -/
theorem ref_apply (r : Fin 16384) (k : Fin 512) :
    val_main_v39 (F := Ideal) x0 x1 x2 x3 x4 (ix2 r k)
      = attend (fun d => x0 (ix2 r ⟨512 + (k.val / 128 * 128 + d.val), by omega⟩))
          (fun s d => val_main_v21 (F := Ideal) x1 x2 x3 (ix4 ⟨r.val / 2048, by omega⟩ s ⟨k.val / 128, by omega⟩ d))
          (fun s d => val_main_v24 (F := Ideal) x1 x2 x4 (ix4 ⟨r.val / 2048, by omega⟩ s ⟨k.val / 128, by omega⟩ d))
          ⟨k.val % 128, by omega⟩ := by
  have hr : r.val / 2048 * 2048 + r.val % 2048 = r.val := by omega
  trans val_main_v38 (F := Ideal) x0 x1 x2 x3 x4
    (ix4 ⟨r.val / 2048, by omega⟩ ⟨r.val % 2048, by omega⟩ ⟨k.val / 128, by omega⟩ ⟨k.val % 128, by omega⟩)
  · unfold val_main_v39
    generalize val_main_v38 (F := Ideal) x0 x1 x2 x3 x4 = Y
    pointwise
  · simp only [ref_mix_apply, ref_softmax_apply, ref_exp_apply, attend, hr, Fin.eta]

end Softmax

end Cert.Layer.Attention

end
-- ==== Proof.AttentionEquation.lean ====
/- The memory attention call and its reference give the same array. -/
module

public import proofs.«01_k».proof.Defs
public import proofs.«01_k».proof.Proof.AttentionArray
public import proofs.«01_k».proof.Proof.AttentionReference
public import proofs.«01_k».proof.Proof.Gen.ReferenceIdeal.Run
public import Idealize.ShloMosaic.Lib.Claim

@[expose] public section

set_option maxRecDepth 16384

noncomputable section

namespace Cert.Layer.Attention

open Idealize.ShloMosaic Idealize.ShloMosaic.TcCoe Idealize.SL.Sem

/-- The specified array is the reference's term. -/
theorem spec_eq (a0 : FVec Ideal KernelIdeal.S16384x1280 .f32) (a1 : FVec Ideal KernelIdeal.S8x256x1024 .f32)
    (a2 : FVec Ideal KernelIdeal.S1x1024 .f32) (a3 a4 : FVec Ideal KernelIdeal.S1x1024x512 .f32) :
    spec a0 a1 a2 a3 a4 = Cert.ReferenceIdeal.Read.val_main_v39 (F := Ideal) a0 a1 a2 a3 a4 := by
  funext y
  idx_vars y
  rw [ref_apply]
  simp only [ref_keys_apply, ref_values_apply]
  rfl

/-- The memory attention call computes what its reference computes. -/
theorem equation : algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    obtain ⟨h0, h1, h2, h3, h4⟩ := hagree c
    rw [Cert.ReferenceIdeal.Read.val_main_v39_eq, final, spec_eq, h0, h1, h2, h3, h4]

end Cert.Layer.Attention

end
-- ==== Proof.FfnFinalBlock.lean ====
/- What one block of 1024 rows computes in the second feed-forward call. -/
module

public import proofs.«01_k».proof.Proof.Gen.Kernel2Ideal.Value
public import proofs.«01_k».proof.Proof.Rows
public import Idealize.ShloMosaic.Lib.Pipeline.ValueKit
public import Idealize.ShloMosaic.Lib.Pointwise

@[expose] public section

set_option maxRecDepth 16384

noncomputable section

namespace Cert.Layer.Second

open Idealize.ShloMosaic Cert.Kernel2Ideal Cert.Kernel2Ideal.Gen

/-- The normalised row, as the block holds it. -/
theorem norm_apply (x : FVec Ideal S1024x1024 .f32) (g : FVec Ideal S1x1024 .f32) (r k : Fin 1024) :
    k0_pay2 (F := Ideal) x g (ix2 r k) = rms (fun i => x (ix2 r i)) (fun i => g (ix2 0 i)) k := by
  pointwise [k0_pay2, rms]

/-- The last stored value: the residual row with its last tile added in, normalised. -/
theorem last_apply (x : FVec Ideal S1024x1024 .f32) (h : FVec Ideal S1024x1024 .bf16) (a : FVec Ideal S1024x1024 .f32)
    (u : FVec Ideal S1024x256 .f32) (w : FVec Ideal S1024x256 .bf16) (d : FVec Ideal S256x1024 .f32)
    (g : FVec Ideal S1x1024 .f32) (r k : Fin 1024) :
    k0_pay1 (F := Ideal) x h a u w d g (ix2 r k)
      = rms (fun i => x (ix2 r i) + Ideal.ofBits .f32 0x3F000000#32 * (a (ix2 r i)
          + ∑ f : Fin 256, u (ix2 r f) * (∑ j : Fin 1024, h (ix2 r j) * w (ix2 j f)) * d (ix2 f i)))
        (fun i => g (ix2 0 i)) k := by
  pointwise [k0_pay1, rms]

/-- The first ten tiles of the hidden width and the terms of the last, added and halved onto the residual:
    the feed-forward row. -/
theorem residual_apply (x0 : FVec Ideal S1024x1024 .f32) (x1 : FVec Ideal S1x1024 .f32) (x2 x3 : FVec Ideal S1024x2816 .f32)
    (x4 : FVec Ideal S2816x1024 .f32) (r i : Fin 1024) :
    x0 (ix2 r i) + Ideal.ofBits .f32 0x3F000000#32 * ((k0_pay14 (F := Ideal) (k0_pay2 x0 x1) (k0_pay12 (k0_pay2 x0 x1) (k0_pay9 (k0_pay2 x0 x1) (k0_pay6
      (k0_pay2 x0 x1) (k0_pay3 x0 x1 (View.ld x2 r0_2) (View.ld x3 r0_2) (View.ld x4 r0_3)) (k0_pay4 x0 x1
      (View.ld x2 r0_4)) (k0_pay5 x0 x1 (View.ld x2 r0_4)) (View.ld x3 r0_4) (View.ld x4 r0_5) (View.ld x2
      r0_6) (View.ld x3 r0_6) (View.ld x4 r0_7)) (k0_pay7 (k0_pay2 x0 x1) (View.ld x2 r0_8)) (k0_pay8
      (k0_pay2 x0 x1) (View.ld x3 r0_8)) (View.ld x4 r0_9) (View.ld x2 r0_10) (View.ld x3 r0_10) (View.ld x4
      r0_11)) (k0_pay10 (k0_pay2 x0 x1) (View.ld x2 r0_12) (View.ld x3 r0_12)) (k0_pay11 (View.ld x4 r0_13))
      (constant S1024x1024 .f32 0x00000000#32) (View.ld x2 r0_14) (View.ld x3 r0_14) (View.ld x4 r0_15)
      (View.ld x2 r0_16) (View.ld x3 r0_16) (View.ld x4 r0_17)) (k0_pay13 (View.ld x2 r0_18)) (constant
      S1024x256 .f32 0x00000000#32) (View.ld x3 r0_18) (View.ld x4 r0_19) (View.ld x2 r0_20) (View.ld x3
      r0_20) (View.ld x4 r0_21)) (ix2 r i)
        + ∑ f : Fin 256, k0_pay15 (F := Ideal) (k0_pay2 x0 x1) (View.ld x2 r0_22) (ix2 r f)
          * (∑ j : Fin 1024, k0_pay2 (F := Ideal) x0 x1 (ix2 r j) * k0_pay16 (F := Ideal) (View.ld x3 r0_22) (ix2 j f))
          * View.ld (Val := Elt Ideal) (e' := .f32) x4 r0_23 (ix2 f i))
      = ffn (fun i => x0 (ix2 r i)) (fun i => x1 (ix2 0 i)) (fun i f => x2 (ix2 i f)) (fun i f => x3 (ix2 i f))
          (fun f i => x4 (ix2 f i)) i := by
  unfold k0_pay5
  unfold k0_pay3 k0_pay4
  have hn := norm_apply x0 x1
  generalize k0_pay2 (F := Ideal) x0 x1 = h at hn
  simp only [ffn, sum_hidden, hidden]
  pointwise [k0_pay6, k0_pay7, k0_pay8, k0_pay9, k0_pay10, k0_pay11, k0_pay12, k0_pay13, k0_pay14, k0_pay15,
    k0_pay16, hn]

/-- Row `r` of the block is the feed-forward row followed by the last normalisation. -/
theorem block (x0 : FVec Ideal S1024x1024 .f32) (x1 : FVec Ideal S1x1024 .f32) (x2 x3 : FVec Ideal S1024x2816 .f32)
    (x4 : FVec Ideal S2816x1024 .f32) (x5 : FVec Ideal S1x1024 .f32) (r k : Fin 1024) :
    out0_6 (F := Ideal) x0 x1 x2 x3 x4 x5 (ix2 r k)
      = rms (ffn (fun i => x0 (ix2 r i)) (fun i => x1 (ix2 0 i)) (fun i f => x2 (ix2 i f)) (fun i f => x3 (ix2 i f))
          (fun f i => x4 (ix2 f i))) (fun i => x5 (ix2 0 i)) k := by
  unfold_out out0_6
  frame_out
  rw [last_apply]
  congr 1
  funext i
  exact residual_apply x0 x1 x2 x3 x4 r i

end Cert.Layer.Second

end
-- ==== Proof.FfnFinalArray.lean ====
/- The array after the second feed-forward call, row by row. -/
module

public import proofs.«01_k».proof.Proof.FfnFinalBlock

@[expose] public section

set_option maxRecDepth 16384

noncomputable section

namespace Cert.Layer.Second

open Idealize.ShloMosaic Idealize.ShloMosaic.TcCoe Idealize.SL.Sem Cert.Kernel2Ideal Cert.Kernel2Ideal.Gen
open Idealize.ShloMosaic.Pipeline (Dat)

/-- The call's result as a function of its arguments: every row through the feed-forward step and the last
    normalisation. -/
def spec (a0 : FVec Ideal S16384x1024 .f32) (a1 : FVec Ideal S1x1024 .f32) (a2 a3 : FVec Ideal S1x1024x2816 .f32)
    (a4 : FVec Ideal S1x2816x1024 .f32) (a5 : FVec Ideal S1024 .f32) : FVec Ideal S16384x1024 .f32 := fun y =>
  rms (ffn (fun i => a0 (ix2 (n0 := 16384) (y 0) i)) (fun i => a1 (ix2 0 i)) (fun i f => a2 (ix3 0 i f))
    (fun i f => a3 (ix3 0 i f)) (fun f i => a4 (ix3 0 f i))) (fun i => a5 (ix1 i)) (y 1)

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- What the body leaves at index `y` of point `t`'s block is the specified array at the place of `y`. -/
theorem point (c : Dev nD) (t : Fin cfg0.N) (y : S1024x1024.Idx) :
    out0_6 (F := Ideal) (iblk m c 0 t) (iblk m c 1 t) (iblk m c 2 t) (iblk m c 3 t) (iblk m c 4 t) (iblk m c 5 t) y
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  idx_vars y
  rw [block, spec]
  blk_point [iblk, V, idx t]

/-- The array after the run is the specified one. -/
theorem final (c : Dev nD) : (dats m 0 c).arrAt 6 (cfgs 0).N
    = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact point m c t y

end Cert.Layer.Second

end
-- ==== Proof.FfnReference.lean ====
/- What the feed-forward references compute, row by row. -/
module

public import proofs.«01_k».proof.Proof.Gen.Reference2Ideal.Run
public import proofs.«01_k».proof.Proof.Gen.Reference2Ideal.Read
public import proofs.«01_k».proof.Proof.Gen.Reference4Ideal.Run
public import proofs.«01_k».proof.Proof.Gen.Reference4Ideal.Read
public import proofs.«01_k».proof.Proof.Rows
public import Idealize.ShloMosaic.Lib.Pointwise

@[expose] public section

set_option maxRecDepth 16384

noncomputable section

namespace Cert.Layer

open Idealize.ShloMosaic Cert.Reference2Ideal Cert.Reference2Ideal.Read

/-- The normalised input of the reference's feed-forward step. -/
theorem ref_norm_apply (x0 : FVec Ideal S16384x1024 .f32) (x1 : FVec Ideal S1x1024 .f32) (r : Fin 16384) (k : Fin 1024) :
    val_main_v13 (F := Ideal) x0 x1 (ix2 r k) = rms (fun i => x0 (ix2 r i)) (fun i => x1 (ix2 0 i)) k := by
  simp only [rms]
  pointwise [val_main_v0, val_main_v1, val_main_cst, val_main_v2, val_main_v3, val_main_cst_0, val_main_v4,
    val_main_v5, val_main_cst_1, val_main_v6, val_main_v7, val_main_v8, val_main_v9, val_main_v10, val_main_v11,
    val_main_v12, val_main_v13]

/-- The reference's residual row after the feed-forward step. -/
theorem ref_ffn_apply (x0 : FVec Ideal S16384x1024 .f32) (x1 : FVec Ideal S1x1024 .f32)
    (x2 x3 : FVec Ideal S1x1024x2816 .f32) (x4 : FVec Ideal S1x2816x1024 .f32) (r : Fin 16384) (k : Fin 1024) :
    val_main_v24 (F := Ideal) x0 x1 x2 x3 x4 (ix2 r k)
      = ffn (fun i => x0 (ix2 r i)) (fun i => x1 (ix2 0 i)) (fun i f => x2 (ix3 0 i f)) (fun i f => x3 (ix3 0 i f))
          (fun f i => x4 (ix3 0 f i)) k := by
  unfold val_main_v24 val_main_v23 val_main_v22 val_main_cst_2 val_main_v21 val_main_v20 val_main_v19 val_main_v18
    val_main_v17 val_main_v16 val_main_call0_v5 val_main_call0_v4 val_main_call0_v3 val_main_call0_v2 val_main_call0_v1
    val_main_call0_v0 val_main_call0_cst val_main_call0_cst_0 val_main_v15 val_main_v14
  have hn := ref_norm_apply x0 x1
  generalize val_main_v13 (F := Ideal) x0 x1 = h at hn
  simp only [ffn, hidden, Ideal.logistic]
  pointwise [hn]

/-- The last normalisation of the reference. -/
theorem ref_last_apply (x0 : FVec Ideal S16384x1024 .f32) (x1 : FVec Ideal S1x1024 .f32)
    (x2 x3 : FVec Ideal S1x1024x2816 .f32) (x4 : FVec Ideal S1x2816x1024 .f32) (x5 : FVec Ideal S1024 .f32)
    (r : Fin 16384) (k : Fin 1024) :
    val_main_v37 (F := Ideal) x0 x1 x2 x3 x4 x5 (ix2 r k)
      = rms (fun i => val_main_v24 (F := Ideal) x0 x1 x2 x3 x4 (ix2 r i)) (fun i => x5 (ix1 i)) k := by
  unfold val_main_v37 val_main_v36 val_main_v35 val_main_v34 val_main_v33 val_main_v32 val_main_v31 val_main_v30
    val_main_cst_5 val_main_v29 val_main_v28 val_main_cst_4 val_main_v27 val_main_v26 val_main_cst_3 val_main_v25
  generalize val_main_v24 (F := Ideal) x0 x1 x2 x3 x4 = z
  simp only [rms]
  pointwise

end Cert.Layer

end
-- ==== Proof.FfnFinalEquation.lean ====
/- The second feed-forward call and its reference give the same array. -/
module

public import proofs.«01_k».proof.Defs
public import proofs.«01_k».proof.Proof.FfnFinalArray
public import proofs.«01_k».proof.Proof.FfnReference
public import proofs.«01_k».proof.Proof.Gen.Reference2Ideal.Run
public import Idealize.ShloMosaic.Lib.Claim

@[expose] public section

set_option maxRecDepth 16384

noncomputable section

namespace Cert.Layer.Second

open Idealize.ShloMosaic Idealize.ShloMosaic.TcCoe Idealize.SL.Sem

/-- The specified array is the reference's term. -/
theorem spec_eq (a0 : FVec Ideal Kernel2Ideal.S16384x1024 .f32) (a1 : FVec Ideal Kernel2Ideal.S1x1024 .f32)
    (a2 a3 : FVec Ideal Kernel2Ideal.S1x1024x2816 .f32) (a4 : FVec Ideal Kernel2Ideal.S1x2816x1024 .f32)
    (a5 : FVec Ideal Kernel2Ideal.S1024 .f32) :
    spec a0 a1 a2 a3 a4 a5 = Cert.Reference2Ideal.Read.val_main_v37 (F := Ideal) a0 a1 a2 a3 a4 a5 := by
  funext y
  idx_vars y
  rw [ref_last_apply]
  simp only [ref_ffn_apply]
  rfl

/-- The second feed-forward call, with the last normalisation, computes what its reference computes. -/
theorem equation : algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    obtain ⟨h0, h1, h2, h3, h4, h5⟩ := hagree c
    rw [Cert.Reference2Ideal.Read.val_main_v37_eq, final, spec_eq, h0, h1, h2, h3, h4, h5]

end Cert.Layer.Second

end
-- ==== Proof.MergeBlock.lean ====
/- What one block of 1024 rows computes in the merge call. -/
module

public import proofs.«01_k».proof.Proof.Gen.Kernel3Ideal.Value
public import proofs.«01_k».proof.Proof.Rows
public import Idealize.ShloMosaic.Lib.Pipeline.ValueKit
public import Idealize.ShloMosaic.Lib.Pointwise

@[expose] public section

set_option maxRecDepth 16384

noncomputable section

namespace Cert.Layer.Merge

open Idealize.ShloMosaic Cert.Kernel3Ideal Cert.Kernel3Ideal.Gen

/-- The normalised input block, entry by entry. -/
theorem norm_apply (x0 : FVec Ideal S1024x1024 .f32) (x1 : FVec Ideal S1x1024 .f32) (r k : Fin 1024) :
    k0_pay2 (F := Ideal) x0 x1 (ix2 r k) = rms (fun i => x0 (ix2 r i)) (fun i => x1 (ix2 0 i)) k := by
  simp only [rms]
  pointwise [k0_pay2]

/-- Row `r` of the block is the merge of the rows of its operands. -/
theorem block (x0 : FVec Ideal S1024x1024 .f32) (x1 : FVec Ideal S1x1024 .f32) (x2 : FVec Ideal S1024x512 .f32)
    (x3 : FVec Ideal S1024x512 .bf16) (x4 : FVec Ideal S1024x512 .f32) (x5 : FVec Ideal S1024x3072 .bf16)
    (x6 x7 x8 : FVec Ideal S512x1024 .bf16) (x9 : FVec Ideal S1024x1024 .bf16) (r k : Fin 1024) :
    out0_10 (F := Ideal) x0 x1 x2 x3 x4 x5 x6 x7 x8 x9 (ix2 r k)
      = merge (fun i => x0 (ix2 r i)) (fun i => x1 (ix2 0 i)) (fun i f => x5 (ix2 i f)) (fun j => x2 (ix2 r j))
          (fun j => x3 (ix2 r j)) (fun j => x4 (ix2 r j)) (fun j i => x6 (ix2 j i)) (fun j i => x7 (ix2 j i))
          (fun j i => x8 (ix2 j i)) (fun j i => x9 (ix2 j i)) k := by
  unfold out0_10
  frame_out
  unfold k0_pay3 k0_pay4
  have hn := norm_apply x0 x1
  generalize k0_pay2 (F := Ideal) x0 x1 = h at hn
  simp only [merge, branch]
  pointwise [k0_pay1, k0_pay5, hn]

end Cert.Layer.Merge

end
-- ==== Proof.MergeArray.lean ====
/- The array after the merge call, row by row. -/
module

public import proofs.«01_k».proof.Proof.MergeBlock

@[expose] public section

set_option maxRecDepth 16384

noncomputable section

namespace Cert.Layer.Merge

open Idealize.ShloMosaic Idealize.ShloMosaic.TcCoe Idealize.SL.Sem Cert.Kernel3Ideal Cert.Kernel3Ideal.Gen
open Idealize.ShloMosaic.Pipeline (Dat)

/-- The call's result as a function of its arguments: every row the merge of the rows of the branches, the gates
    taken from the last 3072 columns of the input projection. -/
def spec (a0 : FVec Ideal S16384x1024 .f32) (a1 : FVec Ideal S1x1024 .f32) (a2 : FVec Ideal S16384x512 .f32)
    (a3 : FVec Ideal S16384x512 .bf16) (a4 : FVec Ideal S16384x512 .f32) (a5 : FVec Ideal S1x1024x6680 .f32)
    (a6 a7 a8 : FVec Ideal S1x512x1024 .f32) (a9 : FVec Ideal S1x1024x1024 .f32) :
    FVec Ideal S16384x1024 .f32 := fun y =>
  merge (fun i => a0 (ix2 (n0 := 16384) (y 0) i)) (fun i => a1 (ix2 0 i))
    (fun i f => a5 (ix3 0 i ⟨3608 + f.val, by omega⟩)) (fun j => a2 (ix2 (n0 := 16384) (y 0) j))
    (fun j => a3 (ix2 (n0 := 16384) (y 0) j)) (fun j => a4 (ix2 (n0 := 16384) (y 0) j)) (fun j i => a6 (ix3 0 j i))
    (fun j i => a7 (ix3 0 j i)) (fun j i => a8 (ix3 0 j i)) (fun j i => a9 (ix3 0 j i)) (y 1)

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0]
    ∧ win0_6.index t = ![0, 0] ∧ win0_7.index t = ![0, 0] ∧ win0_8.index t = ![0, 0] ∧ win0_9.index t = ![0, 0]
    ∧ win0_10.index t = ![t.val, 0] :=
  (by decide +kernel : ∀ t : Fin grid0.N, _)

/-- What the body leaves at index `y` of point `t`'s block is the specified array at the place of `y`. -/
theorem point (c : Dev nD) (t : Fin cfg0.N) (y : S1024x1024.Idx) :
    out0_10 (F := Ideal) (iblk m c 0 t) (iblk m c 1 t) (iblk m c 2 t) (iblk m c 3 t) (iblk m c 4 t) (iblk m c 5 t)
        (iblk m c 6 t) (iblk m c 7 t) (iblk m c 8 t) (iblk m c 9 t) y
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (((cfg0.win 10).blk t).view.emb y) := by
  idx_vars y
  rw [block, spec]
  blk_point [iblk, V, idx t]

/-- The array after the run is the specified one. -/
theorem final (c : Dev nD) : (dats m 0 c).arrAt 10 (cfgs 0).N
    = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 10 _ (by decide +kernel) fun t _ y => ?_
  blk_simp
  rw [after0_10]
  exact point m c t y

end Cert.Layer.Merge

end
-- ==== Proof.MergeReference.lean ====
/- What the merge reference computes, row by row. -/
module

public import proofs.«01_k».proof.Proof.Gen.Reference3Ideal.Run
public import proofs.«01_k».proof.Proof.Gen.Reference3Ideal.Read
public import proofs.«01_k».proof.Proof.FfnReference

@[expose] public section

set_option maxRecDepth 16384

noncomputable section

namespace Cert.Layer.Merge

open Idealize.ShloMosaic Cert.Reference3Ideal Cert.Reference3Ideal.Read

/-- The reference's merged row. -/
theorem ref_apply (x0 : FVec Ideal S16384x1024 .f32) (x1 : FVec Ideal S1x1024 .f32) (x2 : FVec Ideal S16384x512 .f32)
    (x3 : FVec Ideal S16384x512 .bf16) (x4 : FVec Ideal S16384x512 .f32) (x5 : FVec Ideal S1x1024x6680 .f32)
    (x6 x7 x8 : FVec Ideal S1x512x1024 .f32) (x9 : FVec Ideal S1x1024x1024 .f32) (r : Fin 16384) (k : Fin 1024) :
    val_main_v44 (F := Ideal) x0 x1 x2 x3 x4 x5 x6 x7 x8 x9 (ix2 r k)
      = merge (fun i => x0 (ix2 r i)) (fun i => x1 (ix2 0 i)) (fun i f => x5 (ix3 0 i ⟨3608 + f.val, by omega⟩))
          (fun j => x2 (ix2 r j)) (fun j => x3 (ix2 r j)) (fun j => x4 (ix2 r j)) (fun j i => x6 (ix3 0 j i))
          (fun j i => x7 (ix3 0 j i)) (fun j i => x8 (ix3 0 j i)) (fun j i => x9 (ix3 0 j i)) k := by
  unfold val_main_v44 val_main_v43 val_main_v42 val_main_v41 val_main_v40 val_main_v39 val_main_v38 val_main_v37
    val_main_v36 val_main_v35 val_main_v34 val_main_v33 val_main_v32 val_main_v31 val_main_v30 val_main_v29
    val_main_v28 val_main_v27 val_main_v26 val_main_v25 val_main_v24 val_main_v23 val_main_v22 val_main_v21
    val_main_cst_3 val_main_v20 val_main_v19 val_main_cst_2 val_main_v18 val_main_v17 val_main_v16 val_main_v15
    val_main_v14
  have hn : ∀ (r : Fin 16384) (k : Fin 1024), val_main_v13 (F := Ideal) x0 x1 (ix2 r k)
      = rms (fun i => x0 (ix2 r i)) (fun i => x1 (ix2 0 i)) k := ref_norm_apply x0 x1
  generalize val_main_v13 (F := Ideal) x0 x1 = h at hn
  simp only [merge, branch, Ideal.logistic]
  pointwise [hn]

end Cert.Layer.Merge

end
-- ==== Proof.MergeEquation.lean ====
/- The merge call and its reference give the same array. -/
module

public import proofs.«01_k».proof.Defs
public import proofs.«01_k».proof.Proof.MergeArray
public import proofs.«01_k».proof.Proof.MergeReference
public import proofs.«01_k».proof.Proof.Gen.Reference3Ideal.Run
public import Idealize.ShloMosaic.Lib.Claim

@[expose] public section

set_option maxRecDepth 16384

noncomputable section

namespace Cert.Layer.Merge

open Idealize.ShloMosaic Idealize.ShloMosaic.TcCoe Idealize.SL.Sem

/-- The specified array is the reference's term. -/
theorem spec_eq (a0 : FVec Ideal Kernel3Ideal.S16384x1024 .f32) (a1 : FVec Ideal Kernel3Ideal.S1x1024 .f32)
    (a2 : FVec Ideal Kernel3Ideal.S16384x512 .f32) (a3 : FVec Ideal Kernel3Ideal.S16384x512 .bf16)
    (a4 : FVec Ideal Kernel3Ideal.S16384x512 .f32) (a5 : FVec Ideal Kernel3Ideal.S1x1024x6680 .f32)
    (a6 a7 a8 : FVec Ideal Kernel3Ideal.S1x512x1024 .f32) (a9 : FVec Ideal Kernel3Ideal.S1x1024x1024 .f32) :
    spec a0 a1 a2 a3 a4 a5 a6 a7 a8 a9 = Cert.Reference3Ideal.Read.val_main_v44 (F := Ideal) a0 a1 a2 a3 a4 a5 a6 a7 a8 a9 := by
  funext y
  idx_vars y
  rw [ref_apply]
  rfl

/-- The merge call computes what its reference computes. -/
theorem equation : algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    obtain ⟨h0, h1, h2, h3, h4, h5, h6, h7, h8, h9⟩ := hagree c
    rw [Cert.Reference3Ideal.Read.val_main_v44_eq, final, spec_eq, h0, h1, h2, h3, h4, h5, h6, h7, h8, h9]

end Cert.Layer.Merge

end
-- ==== Proof.FfnFirstBlock.lean ====
/- What one block of 1024 rows computes in the first feed-forward call: the same tiles as in the second,
   without the last normalisation. -/
module

public import proofs.«01_k».proof.Proof.Gen.Kernel4Ideal.Value
public import proofs.«01_k».proof.Proof.FfnFinalBlock

@[expose] public section

set_option maxRecDepth 16384

noncomputable section

namespace Cert.Layer.First

open Idealize.ShloMosaic Cert.Kernel4Ideal Cert.Kernel4Ideal.Gen

/-- The stored value: the residual row with its last tile added in. -/
theorem last_apply (x : FVec Ideal S1024x1024 .f32) (h : FVec Ideal S1024x1024 .bf16) (a : FVec Ideal S1024x1024 .f32)
    (u : FVec Ideal S1024x256 .f32) (w : FVec Ideal S1024x256 .bf16) (d : FVec Ideal S256x1024 .f32) (r k : Fin 1024) :
    k0_pay1 (F := Ideal) x h a u w d (ix2 r k)
      = x (ix2 r k) + Ideal.ofBits .f32 0x3F000000#32 * (a (ix2 r k)
          + ∑ f : Fin 256, u (ix2 r f) * (∑ j : Fin 1024, h (ix2 r j) * w (ix2 j f)) * d (ix2 f k)) := by
  pointwise [k0_pay1]

/-- Row `r` of the block is the feed-forward row. -/
theorem block (x0 : FVec Ideal S1024x1024 .f32) (x1 : FVec Ideal S1x1024 .f32) (x2 x3 : FVec Ideal S1024x2816 .f32)
    (x4 : FVec Ideal S2816x1024 .f32) (x5 : FVec Ideal S1x1024 .f32) (r k : Fin 1024) :
    out0_6 (F := Ideal) x0 x1 x2 x3 x4 x5 (ix2 r k)
      = ffn (fun i => x0 (ix2 r i)) (fun i => x1 (ix2 0 i)) (fun i f => x2 (ix2 i f)) (fun i f => x3 (ix2 i f))
          (fun f i => x4 (ix2 f i)) k := by
  unfold_out out0_6
  frame_out
  rw [last_apply]
  exact Second.residual_apply x0 x1 x2 x3 x4 r k

end Cert.Layer.First

end
-- ==== Proof.FfnFirstArray.lean ====
/- The array after the first feed-forward call, row by row. -/
module

public import proofs.«01_k».proof.Proof.FfnFirstBlock

@[expose] public section

set_option maxRecDepth 16384

noncomputable section

namespace Cert.Layer.First

open Idealize.ShloMosaic Idealize.ShloMosaic.TcCoe Idealize.SL.Sem Cert.Kernel4Ideal Cert.Kernel4Ideal.Gen
open Idealize.ShloMosaic.Pipeline (Dat)

/-- The call's result as a function of its arguments: every row through the feed-forward step. -/
def spec (a0 : FVec Ideal S16384x1024 .f32) (a1 : FVec Ideal S1x1024 .f32) (a2 a3 : FVec Ideal S1x1024x2816 .f32)
    (a4 : FVec Ideal S1x2816x1024 .f32) : FVec Ideal S16384x1024 .f32 := fun y =>
  ffn (fun i => a0 (ix2 (n0 := 16384) (y 0) i)) (fun i => a1 (ix2 0 i)) (fun i f => a2 (ix3 0 i f))
    (fun i f => a3 (ix3 0 i f)) (fun f i => a4 (ix3 0 f i)) (y 1)

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- What the body leaves at index `y` of point `t`'s block is the specified array at the place of `y`. -/
theorem point (c : Dev nD) (t : Fin cfg0.N) (y : S1024x1024.Idx) :
    out0_6 (F := Ideal) (iblk m c 0 t) (iblk m c 1 t) (iblk m c 2 t) (iblk m c 3 t) (iblk m c 4 t) (iblk m c 5 t) y
      = spec (m ((c : Thread nD τ).loc main_arg0)) (m ((c : Thread nD τ).loc main_arg1)) (m ((c : Thread nD τ).loc main_arg2))
          (m ((c : Thread nD τ).loc main_arg3)) (m ((c : Thread nD τ).loc main_arg4))
          (((cfg0.win 6).blk t).view.emb y) := by
  idx_vars y
  rw [block, spec]
  blk_point [iblk, V, idx t]

/-- The array after the run is the specified one. -/
theorem final (c : Dev nD) : (dats m 0 c).arrAt 6 (cfgs 0).N
    = spec (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  exact point m c t y

end Cert.Layer.First

end
-- ==== Proof.FfnFirstEquation.lean ====
/- The first feed-forward call and its reference give the same array. -/
module

public import proofs.«01_k».proof.Defs
public import proofs.«01_k».proof.Proof.FfnFirstArray
public import proofs.«01_k».proof.Proof.FfnReference
public import proofs.«01_k».proof.Proof.Gen.Reference4Ideal.Read
public import proofs.«01_k».proof.Proof.Gen.Reference4Ideal.Run
public import Idealize.ShloMosaic.Lib.Claim

@[expose] public section

set_option maxRecDepth 16384

noncomputable section

namespace Cert.Layer.First

open Idealize.ShloMosaic Idealize.ShloMosaic.TcCoe Idealize.SL.Sem

/-- The specified array is the reference's term. -/
theorem spec_eq (a0 : FVec Ideal Kernel4Ideal.S16384x1024 .f32) (a1 : FVec Ideal Kernel4Ideal.S1x1024 .f32)
    (a2 a3 : FVec Ideal Kernel4Ideal.S1x1024x2816 .f32) (a4 : FVec Ideal Kernel4Ideal.S1x2816x1024 .f32) :
    spec a0 a1 a2 a3 a4 = Cert.Reference4Ideal.Read.val_main_v24 (F := Ideal) a0 a1 a2 a3 a4 := by
  funext y
  idx_vars y
  exact (ref_ffn_apply a0 a1 a2 a3 a4 y0 y1).symm

/-- The first feed-forward call computes what its reference computes. -/
theorem equation : algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    rw [Cert.Reference4Ideal.Read.val_main_v24_eq, final, spec_eq]

end Cert.Layer.First

end
-- ==== Proof.ProjectionBlock.lean ====
/- What one block of 512 tokens computes in the input projection. -/
module

public import proofs.«01_k».proof.Proof.Gen.Kernel5Ideal.Value
public import proofs.«01_k».proof.Proof.Rows
public import Idealize.ShloMosaic.Lib.Pipeline.ValueKit
public import Idealize.ShloMosaic.Lib.Pointwise

@[expose] public section

set_option maxRecDepth 16384

noncomputable section

namespace Cert.Layer.Projection

open Idealize.ShloMosaic Cert.Kernel5Ideal Cert.Kernel5Ideal.Gen

/-- The normalised input block, entry by entry. -/
theorem norm_apply (x2 : FVec Ideal S1x1024 .f32) (x0 : FVec Ideal S512x1024 .f32) (r : Fin 512) (k : Fin 1024) :
    k0_pay6 (F := Ideal) x2 x0 (ix2 r k) = rms (fun i => x0 (ix2 r i)) (fun i => x2 (ix2 0 i)) k := by
  simp only [rms]
  pointwise [k0_pay6, k0_pay5]

/-- The normalised rows before the block, entry by entry. -/
theorem norm_before_apply (x2 : FVec Ideal S1x1024 .f32) (x1 : FVec Ideal S16x1024 .f32) (r : Fin 16) (k : Fin 1024) :
    k0_pay21 (F := Ideal) (k0_pay5 x2) x1 (ix2 r k) = rms (fun i => x1 (ix2 r i)) (fun i => x2 (ix2 0 i)) k := by
  simp only [rms]
  pointwise [k0_pay21, k0_pay5]

/-- The token shift of one entry: the entry moved towards the one of the token before. -/
def mix (p q mu : EReal) : EReal := p + (q - p) * mu

/-- A sequence is four blocks: its first block starts it. -/
theorem start_bit : ∀ t : Fin 32, Scalar.cmpi .eq (Scalar.select (Scalar.andi (Scalar.xori
      (Scalar.cmpi .slt (Scalar.remsi (BitVec.ofNat 32 t.val) (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi (BitVec.ofNat 32 t.val) (Scalar.select (Scalar.cmpi .eq 4#32 0#32) 1#32 4#32)) 0#32))
    (Scalar.addi (Scalar.remsi (BitVec.ofNat 32 t.val) (Scalar.select (Scalar.cmpi .eq 4#32 0#32) 1#32 4#32))
      (Scalar.select (Scalar.cmpi .eq 4#32 0#32) 1#32 4#32))
    (Scalar.remsi (BitVec.ofNat 32 t.val) (Scalar.select (Scalar.cmpi .eq 4#32 0#32) 1#32 4#32))) 0#32
      = if t.val % 4 = 0 then 1#1 else 0#1 := by
  decide +kernel

/-- The first row of a block. -/
theorem row_bit : ∀ r : Fin 512, IntOp.cmpi .eq (BitVec.ofNat 32 r.val) 0#32 = if r.val = 0 then 1#1 else 0#1 := by
  decide +kernel

/-- The columns below a bound, among the 256 low-rank inputs. -/
theorem column_bit : ∀ j : Fin 256, IntOp.cmpi .slt (BitVec.ofNat 32 j.val) 64#32 = (if j.val < 64 then 1#1 else 0#1)
    ∧ IntOp.cmpi .slt (BitVec.ofNat 32 j.val) 128#32 = if j.val < 128 then 1#1 else 0#1 := by
  decide +kernel

/-- The shifted projection of a block, entry by entry: the token before the first row is the last of the rows before
    the block, or nothing where a sequence starts. -/
theorem mixed_apply (t : Fin 32) (h : FVec Ideal S512x1024 .bf16) (up : FVec Ideal S16x1024 .f32)
    (w : FVec Ideal S1024x1792 .bf16) (mu : FVec Ideal S1x1792 .f32) (r : Fin 512) (k : Fin 1792) :
    k0_pay22 (F := Ideal) (BitVec.ofNat 32 t.val) h up w mu (ix2 r k)
      = mix (∑ i : Fin 1024, h (ix2 r i) * w (ix2 i k))
          (if r.val = 0 then if t.val % 4 = 0 then 0 else ∑ i : Fin 1024, up (ix2 15 i) * w (ix2 i k)
            else ∑ i : Fin 1024, h (ix2 ⟨r.val - 1, by omega⟩ i) * w (ix2 i k)) (mu (ix2 0 k)) := by
  simp only [mix]
  pointwise [k0_pay22]
  rw [start_bit, row_bit]
  by_cases hr : r.val = 0
  · simp only [hr, if_true]
    by_cases ht : t.val % 4 = 0
    · simp only [ht, if_true]
      rfl
    · simp only [ht, if_false]
      rfl
  · simp only [hr, if_false]
    have e : ∀ (n : ℕ) (hn : n < 512), n = r.val - 1 → (∑ i : Fin 1024, h (ix2 ⟨n, hn⟩ i) * w (ix2 i k))
        = ∑ i : Fin 1024, h (ix2 ⟨r.val - 1, by omega⟩ i) * w (ix2 i k) := by
      rintro n hn rfl
      rfl
    exact congrArg (fun q => (∑ i : Fin 1024, h (ix2 r i) * w (ix2 i k))
      + (q - ∑ i : Fin 1024, h (ix2 r i) * w (ix2 i k)) * mu (ix2 0 k))
      (e ((r.val + 512 - 1) % 512) (by omega) (by omega))

/-- What the low-rank layers read: the hyperbolic tangent of the first 64 columns, the next 64 as they are, the
    logistic of the last 128. -/
def squash (j : Fin 256) (s : EReal) : EReal :=
  if j.val < 64 then Ideal.tanh s else if j.val < 128 then s else Ideal.logistic s

/-- The joint low-rank product of a block, entry by entry. -/
theorem low_apply (s : FVec Ideal S512x256 .f32) (w : FVec Ideal S256x1536 .bf16) (r : Fin 512) (k : Fin 1536) :
    k0_pay29 (F := Ideal) s (iota .tc S512x256 32 [1] iota_S512x256_d1_w32) k0_pay27 (tanh s) 128#32 w (ix2 r k)
      = ∑ j : Fin 256, squash j (s (ix2 r j)) * w (ix2 j k) := by
  pointwise [k0_pay29, k0_pay27]
  refine Finset.sum_congr rfl fun j _ => congrArg (· * w (ix2 j k)) ?_
  rw [(column_bit j).1, (column_bit j).2, squash]
  split <;> [rfl; (split <;> rfl)]

/-- A block of the projections the other branches read, entry by entry. -/
theorem other_apply (x2 : FVec Ideal S1x1024 .f32) (x0 : FVec Ideal S512x1024 .f32) (w : FVec Ideal S1024x1280 .bf16)
    (r : Fin 512) (k : Fin 1280) : k0_pay7 (F := Ideal) x2 x0 w (ix2 r k)
      = ∑ i : Fin 1024, rms (fun i => x0 (ix2 r i)) (fun i => x2 (ix2 0 i)) i * w (ix2 i k) := by
  have hn := norm_apply x2 x0
  unfold k0_pay7
  generalize k0_pay6 (F := Ideal) x2 x0 = h at hn
  pointwise [hn]

/-- The learning rate of a block, entry by entry. -/
theorem rate_apply (s : FVec Ideal S512x256 .f32) (w : FVec Ideal S256x1536 .bf16) (a0 : FVec Ideal S1x512 .f32)
    (r k : Fin 512) : k0_pay30 (F := Ideal) s (iota .tc S512x256 32 [1] iota_S512x256_d1_w32) k0_pay27 (tanh s) 128#32
        w a0 (ix2 r k)
      = Ideal.logistic (a0 (ix2 0 k) + ∑ j : Fin 256, squash j (s (ix2 r j)) * w (ix2 j ⟨512 + k.val, by omega⟩)) := by
  have hl := low_apply s w
  unfold k0_pay30
  generalize k0_pay29 (F := Ideal) s (iota .tc S512x256 32 [1] iota_S512x256_d1_w32) k0_pay27 (tanh s) 128#32 w = l at hl
  pointwise [hl]

/-- One token's projection after the token shift, from the token and the one before it. -/
def token (first : Prop) [Decidable first] (x xb g : Fin 1024 → EReal) (w : Fin 1024 → Fin 1792 → EReal)
    (mu : Fin 1792 → EReal) (c : Fin 1792) : EReal :=
  mix (∑ i : Fin 1024, rms x g i * w i c) (if first then 0 else ∑ i : Fin 1024, rms xb g i * w i c) (mu c)

/-- One token's joint low-rank product, from its shifted projection. -/
def low (p : Fin 1792 → EReal) (w : Fin 256 → Fin 1536 → EReal) (k : Fin 1536) : EReal :=
  ∑ j : Fin 256, squash j (p ⟨1536 + j.val, by omega⟩) * w j k

/-- One token's key, from its shifted projection. -/
def key (p : Fin 1792 → EReal) (w : Fin 256 → Fin 1536 → EReal) (a0 ka : Fin 512 → EReal) (k : Fin 512) : EReal :=
  p ⟨512 + k.val, by omega⟩ * (Ideal.ofBits .f32 0x3F800000#32
    + (Ideal.logistic (a0 k + low p w ⟨512 + k.val, by omega⟩) - Ideal.ofBits .f32 0x3F800000#32) * ka k)

/-- The shifted projection of a block from its input rows. -/
theorem token_apply (t : Fin 32) (x0 : FVec Ideal S512x1024 .f32) (x1 : FVec Ideal S16x1024 .f32)
    (x2 : FVec Ideal S1x1024 .f32) (x3 : FVec Ideal S1024x1792 .bf16) (x7 : FVec Ideal S1x1792 .f32) (r : Fin 512)
    (k : Fin 1792) : k0_pay22 (F := Ideal) (BitVec.ofNat 32 t.val) (k0_pay6 x2 x0) (k0_pay21 (k0_pay5 x2) x1) x3 x7 (ix2 r k)
      = token (r.val = 0 ∧ t.val % 4 = 0) (fun i => x0 (ix2 r i))
          (fun i => if r.val = 0 then x1 (ix2 15 i) else x0 (ix2 ⟨r.val - 1, by omega⟩ i)) (fun i => x2 (ix2 0 i))
          (fun i c => x3 (ix2 i c)) (fun c => x7 (ix2 0 c)) k := by
  rw [mixed_apply, token]
  by_cases hr : r.val = 0 <;> by_cases ht : t.val % 4 = 0 <;>
    simp only [hr, ht, if_true, if_false, norm_apply, norm_before_apply, and_true, and_false, true_and, false_and]

section Blocks

variable (i : grid0.Coords) (x0 : FVec Ideal S512x1024 .f32) (x1 : FVec Ideal S16x1024 .f32)
    (x2 : FVec Ideal S1x1024 .f32) (x3 : FVec Ideal S1024x1792 .bf16) (x4 : FVec Ideal S1024x1280 .bf16)
    (x5 : FVec Ideal S1024x1024 .bf16) (x6 : FVec Ideal S512x1024 .bf16) (x7 : FVec Ideal S1x1792 .f32)
    (x8 : FVec Ideal S256x1536 .bf16) (x9 x10 x11 x12 : FVec Ideal S1x512 .f32) (r k : Fin 512)

/-- The shifted projection of row `r` of the block. -/
abbrev row : Fin 1792 → EReal :=
  token (r.val = 0 ∧ (i 0).val % 4 = 0) (fun i => x0 (ix2 r i))
    (fun i => if r.val = 0 then x1 (ix2 15 i) else x0 (ix2 ⟨r.val - 1, by omega⟩ i)) (fun i => x2 (ix2 0 i))
    (fun i c => x3 (ix2 i c)) (fun c => x7 (ix2 0 c))

/-- The other branches' projections of the block. -/
theorem block_other (k : Fin 1280) : out0_13 (F := Ideal) i x0 x1 x2 x3 x4 x5 x6 x7 x8 x9 x10 x11 x12 (ix2 r k)
    = ∑ i : Fin 1024, rms (fun i => x0 (ix2 r i)) (fun i => x2 (ix2 0 i)) i * x4 (ix2 i k) := by
  unfold_out out0_13
  frame_out
  exact other_apply x2 x0 x4 r k

/-- The receptance of the block. -/
theorem block_receptance : out0_16 (F := Ideal) i x0 x1 x2 x3 x4 x5 x6 x7 x8 x9 x10 x11 x12 (ix2 r k)
    = row i x0 x1 x2 x3 x7 r ⟨k.val, by omega⟩ := by
  unfold_out out0_16
  frame_out
  have hm := token_apply (i 0) x0 x1 x2 x3 x7
  unfold k0_pay23
  generalize k0_pay22 (F := Ideal) _ _ _ x3 x7 = p at hm
  pointwise [hm]

/-- The value of the block. -/
theorem block_value : out0_18 (F := Ideal) i x0 x1 x2 x3 x4 x5 x6 x7 x8 x9 x10 x11 x12 (ix2 r k)
    = row i x0 x1 x2 x3 x7 r ⟨1024 + k.val, by omega⟩ := by
  unfold_out out0_18
  frame_out
  have hm := token_apply (i 0) x0 x1 x2 x3 x7
  unfold k0_pay25
  generalize k0_pay22 (F := Ideal) _ _ _ x3 x7 = p at hm
  pointwise [hm]

/-- The low-rank inputs of the block. -/
theorem low_input_apply (j : Fin 256) : k0_pay26 (F := Ideal) (BitVec.ofNat 32 (i 0).val) (k0_pay6 x2 x0)
    (k0_pay21 (k0_pay5 x2) x1) x3 x7 (ix2 r j) = row i x0 x1 x2 x3 x7 r ⟨1536 + j.val, by omega⟩ := by
  have hm := token_apply (i 0) x0 x1 x2 x3 x7
  unfold k0_pay26
  generalize k0_pay22 (F := Ideal) _ _ _ x3 x7 = p at hm
  pointwise [hm]

/-- The output gate of the block. -/
theorem block_gate : out0_22 (F := Ideal) i x0 x1 x2 x3 x4 x5 x6 x7 x8 x9 x10 x11 x12 (ix2 r k)
    = low (row i x0 x1 x2 x3 x7 r) (fun j k => x8 (ix2 j k)) ⟨1024 + k.val, by omega⟩ := by
  unfold_out out0_22
  frame_out
  have hs := low_input_apply i x0 x1 x2 x3 x7
  unfold k0_pay28
  generalize k0_pay26 (F := Ideal) _ _ _ x3 x7 = s at hs
  have hl := low_apply s x8
  generalize k0_pay29 (F := Ideal) _ _ _ _ _ x8 = l at hl
  simp only [low]
  pointwise [k0_pay4, hl, hs]

/-- The key of the block. -/
theorem block_key : out0_17 (F := Ideal) i x0 x1 x2 x3 x4 x5 x6 x7 x8 x9 x10 x11 x12 (ix2 r k)
    = key (row i x0 x1 x2 x3 x7 r) (fun j k => x8 (ix2 j k)) (fun k => x10 (ix2 0 k)) (fun k => x12 (ix2 0 k)) k := by
  unfold_out out0_17
  frame_out
  have hs := low_input_apply i x0 x1 x2 x3 x7
  have hm := token_apply (i 0) x0 x1 x2 x3 x7
  unfold k0_pay28 k0_pay24 k0_pay32
  generalize k0_pay26 (F := Ideal) _ _ _ x3 x7 = s at hs
  generalize k0_pay22 (F := Ideal) _ _ _ x3 x7 = p at hm
  have hr := rate_apply s x8 x10
  generalize k0_pay30 (F := Ideal) _ _ _ _ _ x8 x10 = a at hr
  simp only [key, low]
  pointwise [k0_pay1, hr, hs, hm]

end Blocks

end Cert.Layer.Projection

end
-- ==== Proof.ProjectionArray.lean ====
/- The arrays after the input projection, token by token. -/
module

public import proofs.«01_k».proof.Proof.ProjectionBlock
public import Idealize.ShloMosaic.Lib.StableHlo.ReadAt
public import Idealize.ShloMosaic.Lib.KernelVsHost

@[expose] public section

set_option maxRecDepth 16384

noncomputable section

namespace Cert.Layer.Projection

open Idealize.ShloMosaic Idealize.ShloMosaic.TcCoe Idealize.SL.Sem Cert.Kernel5Ideal Cert.Kernel5Ideal.Gen
open Idealize.ShloMosaic.Pipeline (Dat)

/-- The shifted projection of token `t`: a token that starts its sequence has none before it. -/
def shifted (a0 : FVec Ideal S16384x1024 .f32) (a1 : FVec Ideal S1x1024 .f32) (a2 : FVec Ideal S1x1024x6680 .f32)
    (a5 : FVec Ideal S1x1792 .f32) (t : Fin 16384) : Fin 1792 → EReal :=
  token (t.val % 2048 = 0) (fun i => a0 (ix2 t i)) (fun i => a0 (ix2 ⟨t.val - 1, by omega⟩ i)) (fun i => a1 (ix2 0 i))
    (fun i c => a2 (ix3 0 i ⟨c.val, by omega⟩)) (fun c => a5 (ix2 0 c))

/-- A token that starts its sequence does not read the one before. -/
theorem token_congr {p q : Prop} [Decidable p] [Decidable q] (hp : p ↔ q) {x xb y yb g g' : Fin 1024 → EReal}
    {w w' : Fin 1024 → Fin 1792 → EReal} {mu mu' : Fin 1792 → EReal} (hx : x = y) (hb : ¬q → xb = yb) (hg : g = g')
    (hw : w = w') (hm : mu = mu') : token p x xb g w mu = token q y yb g' w' mu' := by
  subst hx hg hw hm
  funext c
  unfold token
  by_cases h : q
  · rw [if_pos h, if_pos (hp.2 h)]
  · rw [if_neg h, if_neg (mt hp.1 h), hb h]

variable (m : (ℓ : Loc nD τ sig) → Buf (Elt Ideal) ℓ)

/-- There are 32 grid points. -/
theorem points (t : Fin cfg0.N) : t.val < 32 := t.isLt

/-- Where the blocks of tokens lie at each grid point. -/
theorem idx : ∀ t : Fin cfg0.N, win0_0.index t = ![t.val, 0] ∧ win0_1.index t = ![32 * t.val - 1, 0]
    ∧ win0_13.index t = ![t.val, 0] ∧ win0_16.index t = ![t.val, 0] ∧ win0_17.index t = ![t.val, 0]
    ∧ win0_18.index t = ![t.val, 0] ∧ win0_22.index t = ![t.val, 0] ∧ (grid0.coords t 0).val = t.val :=
  (by decide +kernel : ∀ t : Fin grid0.N, _)

/-- The weights and gains are whole at each grid point. -/
theorem idx_whole : ∀ t : Fin cfg0.N, win0_2.index t = ![0, 0] ∧ win0_3.index t = ![0, 0] ∧ win0_4.index t = ![0, 0]
    ∧ win0_7.index t = ![0, 0] ∧ win0_8.index t = ![0, 0] ∧ win0_10.index t = ![0, 0] ∧ win0_12.index t = ![0, 0] :=
  (by decide +kernel : ∀ t : Fin grid0.N, _)

/-- The tokens a point reads. -/
theorem tokens_apply (c : Dev nD) (t : Fin cfg0.N) (r : Fin 512) (k : Fin 1024) :
    iblk m c 0 t (ix2 r k) = m ((c : Thread nD τ).loc main_arg0)
      (ix2 (n0 := 16384) (n1 := 1024) ⟨512 * t.val + r.val, by have := points t; omega⟩ k) := by
  have h := points t
  blk_point [iblk, V, idx t]

/-- The token before a point's first. -/
theorem before_apply (c : Dev nD) (t : Fin cfg0.N) (ht : t.val ≠ 0) (k : Fin 1024) :
    iblk m c 1 t (ix2 15 k) = m ((c : Thread nD τ).loc main_arg0)
      (ix2 (n0 := 16384) (n1 := 1024) ⟨512 * t.val - 1, by have := points t; omega⟩ k) := by
  have h := points t
  blk_point [iblk, V, idx t]

/-- The normalisation's gain at a point. -/
theorem gain_apply (c : Dev nD) (t : Fin cfg0.N) (k : Fin 1024) :
    iblk m c 2 t (ix2 0 k) = m ((c : Thread nD τ).loc main_arg1) (ix2 (n0 := 1) (n1 := 1024) 0 k) := by
  trans V m c main_v13 (ix2 (n0 := 1) (n1 := 1024) 0 k)
  · unfold iblk
    blk_simp [idx_whole t]
    blk_point [idx_whole t]
  · unfold V
    after_reads_at

/-- The shifted projection's weights at a point: the first 1792 columns. -/
theorem weights_apply (c : Dev nD) (t : Fin cfg0.N) (i : Fin 1024) (k : Fin 1792) :
    iblk m c 3 t (ix2 i k) = m ((c : Thread nD τ).loc main_arg2)
      (ix3 (n0 := 1) (n1 := 1024) (n2 := 6680) 0 i ⟨k.val, by omega⟩) := by
  trans V m c main_v14 (ix2 (n0 := 1024) (n1 := 1792) i k)
  · unfold iblk
    blk_simp [idx_whole t]
    blk_point [idx_whole t]
  · unfold V
    after_reads_at

/-- The token shift's gain at a point. -/
theorem shift_apply (c : Dev nD) (t : Fin cfg0.N) (k : Fin 1792) :
    iblk m c 7 t (ix2 0 k) = m ((c : Thread nD τ).loc main_arg5) (ix2 (n0 := 1) (n1 := 1792) 0 k) := by
  trans V m c main_v18 (ix2 (n0 := 1) (n1 := 1792) 0 k)
  · unfold iblk
    blk_simp [idx_whole t]
    blk_point [idx_whole t]
  · unfold V
    after_reads_at

/-- The low-rank weights at a point. -/
theorem low_weights_apply (c : Dev nD) (t : Fin cfg0.N) (j : Fin 256) (k : Fin 1536) :
    iblk m c 8 t (ix2 j k) = m ((c : Thread nD τ).loc main_arg7) (ix2 (n0 := 256) (n1 := 1536) j k) := by
  trans V m c main_v19 (ix2 (n0 := 256) (n1 := 1536) j k)
  · unfold iblk
    blk_simp [idx_whole t]
    blk_point [idx_whole t]
  · unfold V
    after_reads_at

/-- The learning rate's offset at a point. -/
theorem rate_offset_apply (c : Dev nD) (t : Fin cfg0.N) (k : Fin 512) :
    iblk m c 10 t (ix2 0 k) = m ((c : Thread nD τ).loc main_arg8) (ix2 (n0 := 1) (n1 := 512) 0 k) := by
  trans V m c main_v23 (ix2 (n0 := 1) (n1 := 512) 0 k)
  · unfold iblk
    blk_simp [idx_whole t]
    blk_point [idx_whole t]
  · unfold V
    after_reads_at

/-- The key's gain at a point. -/
theorem key_gain_apply (c : Dev nD) (t : Fin cfg0.N) (k : Fin 512) :
    iblk m c 12 t (ix2 0 k) = m ((c : Thread nD τ).loc main_arg10) (ix2 (n0 := 1) (n1 := 512) 0 k) := by
  trans V m c main_v27 (ix2 (n0 := 1) (n1 := 512) 0 k)
  · unfold iblk
    blk_simp [idx_whole t]
    blk_point [idx_whole t]
  · unfold V
    after_reads_at

/-- The other branches' weights: the queries of the sparse attention, those of the memory attention, and the gates of
    each of the two groups in the first 12 of 128 columns. -/
def others (a2 : FVec Ideal S1x1024x6680 .f32) (i : Fin 1024) (k : Fin 1280) : EReal :=
  if k.val < 512 then a2 (ix3 0 i ⟨1792 + k.val, by omega⟩)
  else if k.val < 1024 then a2 (ix3 0 i ⟨2584 + k.val, by omega⟩)
  else if h : k.val % 128 < 12 then
    a2 (ix3 0 i ⟨3072 + (k.val % 128 / 4 * 8 + (k.val - 1024) / 128 * 4 + k.val % 4), by omega⟩)
  else 0

/-- Two reads of one column. -/
theorem column_congr (a2 : FVec Ideal S1x1024x6680 .f32) (i : Fin 1024) {n n' : ℕ} (hn : n < 6680) (hn' : n' < 6680)
    (h : n = n') : a2 (ix3 0 i ⟨n, hn⟩) = a2 (ix3 0 i ⟨n', hn'⟩) := by
  subst h
  rfl

/-- The other branches' weights at a point. -/
theorem others_apply (c : Dev nD) (t : Fin cfg0.N) (i : Fin 1024) (k : Fin 1280) :
    iblk m c 4 t (ix2 i k) = others (m ((c : Thread nD τ).loc main_arg2)) i k := by
  trans V m c main_v11 (ix2 (n0 := 1024) (n1 := 1280) i k)
  · unfold iblk
    blk_simp [idx_whole t]
    blk_point [idx_whole t]
  · unfold V
    after_reads_at
    unfold others
    by_cases h1 : k.val < 512
    · simp only [h1, dif_pos, if_true]
      after_reads_at
    · by_cases h2 : k.val < 1024
      · simp only [h1, h2, show k.val - 512 < 512 by omega, dif_pos, dif_neg, if_true, if_false, not_false_iff]
        after_reads_at
        exact column_congr _ i _ _ (by omega)
      · simp only [h1, h2, show ¬k.val - 512 < 512 by omega, dif_neg, if_false, not_false_iff]
        after_reads_at
        by_cases h3 : k.val % 128 < 12
        · have h4 : (k.val - 512 - 512) / 128 < 2 ∧ (k.val - 512 - 512) % 128 < 12 := by omega
          simp only [h3, h4, dif_pos, and_self]
          exact column_congr _ i _ _ (by omega)
        · have h4 : ¬((k.val - 512 - 512) / 128 < 2 ∧ (k.val - 512 - 512) % 128 < 12) := by omega
          simp only [h3, h4, dif_neg, not_false_iff]
          exact sitofp_zero (φ := .f32)

/-- The shifted projection of a block is that of its tokens. -/
theorem row_eq (c : Dev nD) (t : Fin cfg0.N) (r : Fin 512) :
    row (grid0.coords t) (iblk m c 0 t) (iblk m c 1 t) (iblk m c 2 t) (iblk m c 3 t) (iblk m c 7 t) r
      = shifted (m ((c : Thread nD τ).loc main_arg0)) (m ((c : Thread nD τ).loc main_arg1))
          (m ((c : Thread nD τ).loc main_arg2)) (m ((c : Thread nD τ).loc main_arg5))
          ⟨512 * t.val + r.val, by have := points t; omega⟩ := by
  have h := points t
  have e : (grid0.coords t 0).val = t.val := (idx t).2.2.2.2.2.2.2
  unfold row shifted
  refine token_congr (by rw [e]; simp only; omega) ?_ (fun hn => ?_) ?_ ?_ ?_
  · funext i
    exact tokens_apply m c t r i
  · funext i
    simp only at hn
    by_cases hr : r.val = 0
    · rw [if_pos hr, before_apply m c t (by omega) i]
      simp only [hr, Nat.add_zero]
    · rw [if_neg hr, tokens_apply]
      congr 2
      ext
      simp only
      omega
  · funext i
    exact gain_apply m c t i
  · funext i k
    exact weights_apply m c t i k
  · funext k
    exact shift_apply m c t k

/-- The receptances as a function of the arguments: the first 512 columns of the shifted projection. -/
def receptances (a0 : FVec Ideal S16384x1024 .f32) (a1 : FVec Ideal S1x1024 .f32) (a2 : FVec Ideal S1x1024x6680 .f32)
    (a5 : FVec Ideal S1x1792 .f32) : FVec Ideal S16384x512 .f32 := fun y =>
  shifted a0 a1 a2 a5 (y 0) ⟨(y 1).val, by idx_bounds_all; omega⟩

/-- The values as a function of the arguments: the third 512 columns of the shifted projection. -/
def values (a0 : FVec Ideal S16384x1024 .f32) (a1 : FVec Ideal S1x1024 .f32) (a2 : FVec Ideal S1x1024x6680 .f32)
    (a5 : FVec Ideal S1x1792 .f32) : FVec Ideal S16384x512 .f32 := fun y =>
  shifted a0 a1 a2 a5 (y 0) ⟨1024 + (y 1).val, by idx_bounds_all; omega⟩

/-- The other branches' projections as a function of the arguments. -/
def projections (a0 : FVec Ideal S16384x1024 .f32) (a1 : FVec Ideal S1x1024 .f32) (a2 : FVec Ideal S1x1024x6680 .f32) :
    FVec Ideal S16384x1280 .f32 := fun y =>
  ∑ i : Fin 1024, rms (fun i => a0 (ix2 (n0 := 16384) (y 0) i)) (fun i => a1 (ix2 0 i)) i * others a2 i (y 1)

/-- The keys as a function of the arguments. -/
def keys (a0 : FVec Ideal S16384x1024 .f32) (a1 : FVec Ideal S1x1024 .f32) (a2 : FVec Ideal S1x1024x6680 .f32)
    (a5 : FVec Ideal S1x1792 .f32) (a7 : FVec Ideal S256x1536 .f32) (a8 a10 : FVec Ideal S1x512 .f32) :
    FVec Ideal S16384x512 .f32 := fun y =>
  key (shifted a0 a1 a2 a5 (y 0)) (fun j k => a7 (ix2 j k)) (fun k => a8 (ix2 0 k)) (fun k => a10 (ix2 0 k)) (y 1)

/-- The output gates as a function of the arguments. -/
def gates (a0 : FVec Ideal S16384x1024 .f32) (a1 : FVec Ideal S1x1024 .f32) (a2 : FVec Ideal S1x1024x6680 .f32)
    (a5 : FVec Ideal S1x1792 .f32) (a7 : FVec Ideal S256x1536 .f32) : FVec Ideal S16384x512 .f32 := fun y =>
  low (shifted a0 a1 a2 a5 (y 0)) (fun j k => a7 (ix2 j k)) ⟨1024 + (y 1).val, by idx_bounds_all; omega⟩

/-- Where an entry of a block of receptances lies. -/
theorem receptance_place (t : Fin cfg0.N) (r : Fin 512) (k : Fin 512) : ((cfg0.win 16).blk t).view.emb (ix2 r k)
    = ix2 (n0 := 16384) (n1 := 512) ⟨512 * t.val + r.val, by have := points t; omega⟩ k := by
  have h := points t
  funext a
  apply Fin.ext
  fin_cases a <;> blk_simp [idx t]
  · exact congrArg (· + r.val) (Nat.mul_comm t.val 512)
  · rfl

/-- Where an entry of a block of keys lies. -/
theorem key_place (t : Fin cfg0.N) (r : Fin 512) (k : Fin 512) : ((cfg0.win 17).blk t).view.emb (ix2 r k)
    = ix2 (n0 := 16384) (n1 := 512) ⟨512 * t.val + r.val, by have := points t; omega⟩ k := by
  have h := points t
  funext a
  apply Fin.ext
  fin_cases a <;> blk_simp [idx t]
  · exact congrArg (· + r.val) (Nat.mul_comm t.val 512)
  · rfl

/-- Where an entry of a block of values lies. -/
theorem value_place (t : Fin cfg0.N) (r : Fin 512) (k : Fin 512) : ((cfg0.win 18).blk t).view.emb (ix2 r k)
    = ix2 (n0 := 16384) (n1 := 512) ⟨512 * t.val + r.val, by have := points t; omega⟩ k := by
  have h := points t
  funext a
  apply Fin.ext
  fin_cases a <;> blk_simp [idx t]
  · exact congrArg (· + r.val) (Nat.mul_comm t.val 512)
  · rfl

/-- Where an entry of a block of output gates lies. -/
theorem gate_place (t : Fin cfg0.N) (r : Fin 512) (k : Fin 512) : ((cfg0.win 22).blk t).view.emb (ix2 r k)
    = ix2 (n0 := 16384) (n1 := 512) ⟨512 * t.val + r.val, by have := points t; omega⟩ k := by
  have h := points t
  funext a
  apply Fin.ext
  fin_cases a <;> blk_simp [idx t]
  · exact congrArg (· + r.val) (Nat.mul_comm t.val 512)
  · rfl

/-- Where an entry of a block of other branches' projections lies. -/
theorem other_place (t : Fin cfg0.N) (r : Fin 512) (k : Fin 1280) : ((cfg0.win 13).blk t).view.emb (ix2 r k)
    = ix2 (n0 := 16384) (n1 := 1280) ⟨512 * t.val + r.val, by have := points t; omega⟩ k := by
  have h := points t
  funext a
  apply Fin.ext
  fin_cases a <;> blk_simp [idx t]
  · exact congrArg (· + r.val) (Nat.mul_comm t.val 512)
  · rfl

/-- The receptances after the run are the specified ones. -/
theorem final_receptances (c : Dev nD) : (dats m 0 c).arrAt 16 (cfgs 0).N
    = receptances (m ((c : Thread nD τ).loc main_arg0)) (m ((c : Thread nD τ).loc main_arg1)) (m ((c : Thread nD τ).loc main_arg2))
        (m ((c : Thread nD τ).loc main_arg5)) := by
  refine (dats m 0 c).arrAt_eq_of_covers 16 _ (by decide +kernel) fun t _ y => ?_
  blk_simp
  rw [after0_16]
  have h := points t
  idx_vars y
  erw [block_receptance]
  simp only [row_eq]
  exact (congrArg (receptances _ _ _ _) (receptance_place t y0 y1)).symm

/-- The values after the run are the specified ones. -/
theorem final_values (c : Dev nD) : (dats m 0 c).arrAt 18 (cfgs 0).N
    = values (m ((c : Thread nD τ).loc main_arg0)) (m ((c : Thread nD τ).loc main_arg1)) (m ((c : Thread nD τ).loc main_arg2))
        (m ((c : Thread nD τ).loc main_arg5)) := by
  refine (dats m 0 c).arrAt_eq_of_covers 18 _ (by decide +kernel) fun t _ y => ?_
  blk_simp
  rw [after0_18]
  have h := points t
  idx_vars y
  erw [block_value]
  simp only [row_eq]
  exact (congrArg (values _ _ _ _) (value_place t y0 y1)).symm

/-- The other branches' projections after the run are the specified ones. -/
theorem final_projections (c : Dev nD) : (dats m 0 c).arrAt 13 (cfgs 0).N
    = projections (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  have h := points t
  idx_vars y
  erw [block_other]
  simp only [tokens_apply, gain_apply, others_apply]
  exact (congrArg (projections _ _ _) (other_place t y0 y1)).symm

/-- The keys after the run are the specified ones. -/
theorem final_keys (c : Dev nD) : (dats m 0 c).arrAt 17 (cfgs 0).N
    = keys (m ((c : Thread nD τ).loc main_arg0)) (m ((c : Thread nD τ).loc main_arg1)) (m ((c : Thread nD τ).loc main_arg2))
        (m ((c : Thread nD τ).loc main_arg5)) (m ((c : Thread nD τ).loc main_arg7)) (m ((c : Thread nD τ).loc main_arg8))
        (m ((c : Thread nD τ).loc main_arg10)) := by
  refine (dats m 0 c).arrAt_eq_of_covers 17 _ (by decide +kernel) fun t _ y => ?_
  blk_simp
  rw [after0_17]
  have h := points t
  idx_vars y
  erw [block_key]
  simp only [row_eq, low_weights_apply, rate_offset_apply, key_gain_apply]
  exact (congrArg (keys _ _ _ _ _ _ _) (key_place t y0 y1)).symm

/-- The output gates after the run are the specified ones. -/
theorem final_gates (c : Dev nD) : (dats m 0 c).arrAt 22 (cfgs 0).N
    = gates (m ((c : Thread nD τ).loc main_arg0)) (m ((c : Thread nD τ).loc main_arg1)) (m ((c : Thread nD τ).loc main_arg2))
        (m ((c : Thread nD τ).loc main_arg5)) (m ((c : Thread nD τ).loc main_arg7)) := by
  refine (dats m 0 c).arrAt_eq_of_covers 22 _ (by decide +kernel) fun t _ y => ?_
  blk_simp
  rw [after0_22]
  have h := points t
  idx_vars y
  erw [block_gate]
  simp only [row_eq, low_weights_apply]
  exact (congrArg (gates _ _ _ _ _) (gate_place t y0 y1)).symm

end Cert.Layer.Projection

end
-- ==== Proof.ProjectionReference.lean ====
/- What the input projection's reference computes, token by token. -/
module

public import proofs.«01_k».proof.Proof.Gen.Reference5Ideal.Run
public import proofs.«01_k».proof.Proof.Gen.Reference5Ideal.Read
public import proofs.«01_k».proof.Proof.FfnReference
public import proofs.«01_k».proof.Proof.ProjectionArray

@[expose] public section

set_option maxRecDepth 16384

noncomputable section

namespace Cert.Layer.Projection

open Idealize.ShloMosaic Cert.Reference5Ideal Cert.Reference5Ideal.Read

/-- The reference's input projection, entry by entry. -/
theorem ref_joined_apply (x0 : FVec Ideal S16384x1024 .f32) (x1 : FVec Ideal S1x1024 .f32)
    (x2 : FVec Ideal S1x1024x6680 .f32) (r : Fin 16384) (k : Fin 6680) : val_main_v15 (F := Ideal) x0 x1 x2 (ix2 r k)
      = ∑ i : Fin 1024, rms (fun i => x0 (ix2 r i)) (fun i => x1 (ix2 0 i)) i * x2 (ix3 0 i k) := by
  unfold val_main_v15 val_main_v14
  have hn : ∀ (r : Fin 16384) (k : Fin 1024), val_main_v13 (F := Ideal) x0 x1 (ix2 r k)
      = rms (fun i => x0 (ix2 r i)) (fun i => x1 (ix2 0 i)) k := ref_norm_apply x0 x1
  generalize val_main_v13 (F := Ideal) x0 x1 = h at hn
  pointwise [hn]

/-- Two reads of one shifted column. -/
theorem entry_congr (p : FVec Ideal S16384x1792 .f32) (t : Fin 16384) {n n' : ℕ} (hn : n < 1792) (hn' : n' < 1792)
    (h : n = n') : p (ix2 t ⟨n, hn⟩) = p (ix2 t ⟨n', hn'⟩) := by
  subst h
  rfl

/-- The value outside a padded array. -/
theorem pad_zero : (FloatOps.sitofp FTy.f32 0#32 : Ideal .f32) = 0 := by
  show ((((0#32 : BitVec 32).toInt : ℤ) : ℝ) : EReal) = 0
  simp

/-- A padded read is a read where the condition holds, and nothing elsewhere. -/
theorem padded_congr (p : FVec Ideal S16384x6680 .f32) (k : Fin 6680) (z : EReal) (hz : z = 0) {c d : Prop} [Decidable c]
    [Decidable d] {n n' : ℕ} {hc : c → n < 16384} (hn' : n' < 16384) (hcd : c ↔ ¬d) (hn : c → n = n') :
    (if h : c then p (ix2 ⟨n, hc h⟩ k) else z) = if d then 0 else p (ix2 ⟨n', hn'⟩ k) := by
  by_cases hd : d
  · rw [dif_neg (fun h => hcd.1 h hd), if_pos hd, hz]
  · have h := hcd.2 hd
    have e := hn h
    subst e
    rw [dif_pos h, if_neg hd]

/-- The reference's token shift, entry by entry. -/
theorem ref_shift_apply (x0 : FVec Ideal S16384x1024 .f32) (x1 : FVec Ideal S1x1024 .f32)
    (x2 : FVec Ideal S1x1024x6680 .f32) (x5 : FVec Ideal S1x1792 .f32) (t : Fin 16384) (k : Fin 1792) :
    val_main_v26 (F := Ideal) x0 x1 x2 x5 (ix2 t k)
      = mix (val_main_v15 (F := Ideal) x0 x1 x2 (ix2 t ⟨k.val, by omega⟩))
          (if t.val % 2048 = 0 then 0 else val_main_v15 (F := Ideal) x0 x1 x2 (ix2 ⟨t.val - 1, by omega⟩ ⟨k.val, by omega⟩))
          (x5 (ix2 0 k)) := by
  unfold val_main_v26 val_main_v25 val_main_v24 val_main_v23 val_main_v22 val_main_v21 val_main_v20 val_main_v19
    val_main_call0_v0 val_main_c val_main_v18 val_main_v17 val_main_v16
  generalize val_main_v15 (F := Ideal) x0 x1 x2 = p
  simp only [mix]
  pointwise
  have hc : (t.val / 2048 < 8 ∧ 1 ≤ t.val % 2048 ∧ t.val % 2048 - 1 < 2047) ↔ ¬t.val % 2048 = 0 := by omega
  have hn : t.val / 2048 < 8 ∧ 1 ≤ t.val % 2048 ∧ t.val % 2048 - 1 < 2047 →
      t.val / 2048 * 2048 + (t.val % 2048 - 1) = t.val - 1 := by omega
  congr 3
  exact padded_congr p ⟨k.val, by omega⟩ _ pad_zero (by omega) hc hn

/-- The reference's shifted projection, entry by entry. -/
theorem ref_token_apply (x0 : FVec Ideal S16384x1024 .f32) (x1 : FVec Ideal S1x1024 .f32)
    (x2 : FVec Ideal S1x1024x6680 .f32) (x5 : FVec Ideal S1x1792 .f32) (t : Fin 16384) (k : Fin 1792) :
    val_main_v26 (F := Ideal) x0 x1 x2 x5 (ix2 t k)
      = token (t.val % 2048 = 0) (fun i => x0 (ix2 t i)) (fun i => x0 (ix2 ⟨t.val - 1, by omega⟩ i))
          (fun i => x1 (ix2 0 i)) (fun i c => x2 (ix3 0 i ⟨c.val, by omega⟩)) (fun c => x5 (ix2 0 c)) k := by
  rw [ref_shift_apply, token]
  simp only [ref_joined_apply]

/-- The reference's low-rank inputs, entry by entry. -/
theorem ref_squash_apply (x0 : FVec Ideal S16384x1024 .f32) (x1 : FVec Ideal S1x1024 .f32)
    (x2 : FVec Ideal S1x1024x6680 .f32) (x5 : FVec Ideal S1x1792 .f32) (t : Fin 16384) (j : Fin 256) :
    val_main_v49 (F := Ideal) x0 x1 x2 x5 (ix2 t j)
      = squash j (val_main_v26 (F := Ideal) x0 x1 x2 x5 (ix2 t ⟨1536 + j.val, by omega⟩)) := by
  unfold val_main_v49 val_main_v48 val_main_v47 val_main_cst_4 val_main_v46 val_main_v45 val_main_cst_3 val_main_v44
    val_main_v43 val_main_v42 val_main_v32 val_main_v31 val_main_v30
  generalize val_main_v26 (F := Ideal) x0 x1 x2 x5 = p
  simp only [squash, Ideal.logistic]
  pointwise
  by_cases h1 : j.val < 64
  · simp only [h1, dif_pos, if_true]
  · by_cases h2 : j.val < 128
    · simp only [h1, h2, show j.val - 64 < 64 by omega, dif_pos, dif_neg, if_true, if_false, not_false_iff]
      exact entry_congr p t _ _ (by omega)
    · simp only [h1, h2, show ¬j.val - 64 < 64 by omega, dif_neg, if_false, not_false_iff]
      exact congrArg (fun q => Ideal.div 1 (1 + Ideal.exp (-q))) (entry_congr p t _ (by omega) (by omega))

/-- The reference's joint low-rank product, entry by entry. -/
theorem ref_low_apply (x0 : FVec Ideal S16384x1024 .f32) (x1 : FVec Ideal S1x1024 .f32)
    (x2 : FVec Ideal S1x1024x6680 .f32) (x5 : FVec Ideal S1x1792 .f32) (x7 : FVec Ideal S256x1536 .f32) (t : Fin 16384)
    (k : Fin 1536) : val_main_v50 (F := Ideal) x0 x1 x2 x5 x7 (ix2 t k)
      = low (fun c => val_main_v26 (F := Ideal) x0 x1 x2 x5 (ix2 t c)) (fun j k => x7 (ix2 j k)) k := by
  unfold val_main_v50
  have hs := ref_squash_apply x0 x1 x2 x5
  generalize val_main_v49 (F := Ideal) x0 x1 x2 x5 = z at hs
  generalize val_main_v26 (F := Ideal) x0 x1 x2 x5 = p at hs
  simp only [low]
  pointwise [hs]

/-- The reference's keys, entry by entry. -/
theorem ref_key_apply (x0 : FVec Ideal S16384x1024 .f32) (x1 : FVec Ideal S1x1024 .f32)
    (x2 : FVec Ideal S1x1024x6680 .f32) (x5 : FVec Ideal S1x1792 .f32) (x7 : FVec Ideal S256x1536 .f32)
    (x8 x10 : FVec Ideal S1x512 .f32) (t : Fin 16384) (k : Fin 512) :
    val_main_v70 (F := Ideal) x0 x1 x2 x5 x7 x8 x10 (ix2 t k)
      = key (fun c => val_main_v26 (F := Ideal) x0 x1 x2 x5 (ix2 t c)) (fun j k => x7 (ix2 j k)) (fun k => x8 (ix2 0 k))
          (fun k => x10 (ix2 0 k)) k := by
  unfold val_main_v70 val_main_v69 val_main_v68 val_main_cst_8 val_main_v67 val_main_v66 val_main_v65 val_main_v64
    val_main_v63 val_main_v62 val_main_cst_7 val_main_v61 val_main_v60 val_main_cst_6 val_main_v59 val_main_v58
    val_main_cst_5 val_main_v57 val_main_v56 val_main_v55 val_main_v54 val_main_v53 val_main_v52 val_main_v51 val_main_v28
  have hl := ref_low_apply x0 x1 x2 x5 x7
  generalize val_main_v50 (F := Ideal) x0 x1 x2 x5 x7 = l at hl
  generalize val_main_v26 (F := Ideal) x0 x1 x2 x5 = p at hl
  simp only [key, Ideal.logistic]
  pointwise [hl]

/-- The reference's projections for the other branches, entry by entry. -/
theorem ref_other_apply (x0 : FVec Ideal S16384x1024 .f32) (x1 : FVec Ideal S1x1024 .f32)
    (x2 : FVec Ideal S1x1024x6680 .f32) (t : Fin 16384) (k : Fin 1280) :
    val_main_v41 (F := Ideal) x0 x1 x2 (ix2 t k)
      = ∑ i : Fin 1024, rms (fun i => x0 (ix2 t i)) (fun i => x1 (ix2 0 i)) i * others x2 i k := by
  unfold val_main_v41 val_main_v40 val_main_v39 val_main_v38 val_main_v37 val_main_call1_v0 val_main_c_2 val_main_v36
    val_main_v35 val_main_v34 val_main_v33
  have hj := ref_joined_apply x0 x1 x2
  generalize val_main_v15 (F := Ideal) x0 x1 x2 = p at hj
  unfold others
  pointwise
  by_cases h1 : k.val < 512
  · simp only [h1, dif_pos, if_true, hj]
  · by_cases h2 : k.val < 1024
    · simp only [h1, h2, show k.val - 512 < 512 by omega, dif_pos, dif_neg, if_true, if_false, not_false_iff, hj]
      exact Finset.sum_congr rfl fun i _ => congrArg (_ * ·) (column_congr x2 i _ _ (by omega))
    · by_cases h3 : k.val % 128 < 12
      · have h4 : (k.val - 512 - 512) / 128 < 2 ∧ (k.val - 512 - 512) % 128 < 12 := by omega
        simp only [h1, h2, h3, h4, show ¬k.val - 512 < 512 by omega, dif_pos, dif_neg, if_false, not_false_iff,
          and_self, hj]
        exact Finset.sum_congr rfl fun i _ => congrArg (_ * ·) (column_congr x2 i _ _ (by omega))
      · have h4 : ¬((k.val - 512 - 512) / 128 < 2 ∧ (k.val - 512 - 512) % 128 < 12) := by omega
        simp only [h1, h2, h3, h4, show ¬k.val - 512 < 512 by omega, dif_neg, if_false, not_false_iff, mul_zero,
          Finset.sum_const_zero]
        exact pad_zero

end Cert.Layer.Projection

end
-- ==== Proof.ProjectionEquation.lean ====
/- The input projection and its reference give the same arrays. -/
module

public import proofs.«01_k».proof.Defs
public import proofs.«01_k».proof.Proof.ProjectionArray
public import proofs.«01_k».proof.Proof.ProjectionReference
public import proofs.«01_k».proof.Proof.Gen.Reference5Ideal.Run
public import Idealize.ShloMosaic.Lib.Claim

@[expose] public section

set_option maxRecDepth 16384

noncomputable section

namespace Cert.Layer.Projection

open Idealize.ShloMosaic Idealize.ShloMosaic.TcCoe Idealize.SL.Sem

section Specs

variable (a0 : FVec Ideal Kernel5Ideal.S16384x1024 .f32) (a1 : FVec Ideal Kernel5Ideal.S1x1024 .f32)
    (a2 : FVec Ideal Kernel5Ideal.S1x1024x6680 .f32) (a5 : FVec Ideal Kernel5Ideal.S1x1792 .f32)
    (a7 : FVec Ideal Kernel5Ideal.S256x1536 .f32) (a8 a10 : FVec Ideal Kernel5Ideal.S1x512 .f32)

/-- The reference's shifted projection of a token is the specified one. -/
theorem shifted_eq (t : Fin 16384) :
    (fun c => Cert.Reference5Ideal.Read.val_main_v26 (F := Ideal) a0 a1 a2 a5 (ix2 t c)) = shifted a0 a1 a2 a5 t :=
  funext (ref_token_apply a0 a1 a2 a5 t)

/-- The specified receptances are the reference's. -/
theorem receptances_eq : receptances a0 a1 a2 a5 = Cert.Reference5Ideal.Read.val_main_v27 (F := Ideal) a0 a1 a2 a5 := by
  funext y
  idx_vars y
  refine (ref_token_apply a0 a1 a2 a5 y0 ⟨y1.val, by omega⟩).symm.trans ?_
  unfold Cert.Reference5Ideal.Read.val_main_v27
  pointwise

/-- The specified values are the reference's. -/
theorem values_eq : values a0 a1 a2 a5 = Cert.Reference5Ideal.Read.val_main_v29 (F := Ideal) a0 a1 a2 a5 := by
  funext y
  idx_vars y
  refine (ref_token_apply a0 a1 a2 a5 y0 ⟨1024 + y1.val, by omega⟩).symm.trans ?_
  unfold Cert.Reference5Ideal.Read.val_main_v29
  pointwise

/-- The specified projections of the other branches are the reference's. -/
theorem projections_eq : projections a0 a1 a2 = Cert.Reference5Ideal.Read.val_main_v41 (F := Ideal) a0 a1 a2 := by
  funext y
  idx_vars y
  rw [ref_other_apply]
  rfl

/-- The specified keys are the reference's. -/
theorem keys_eq : keys a0 a1 a2 a5 a7 a8 a10
    = Cert.Reference5Ideal.Read.val_main_v70 (F := Ideal) a0 a1 a2 a5 a7 a8 a10 := by
  funext y
  idx_vars y
  rw [ref_key_apply, shifted_eq]
  rfl

/-- The specified output gates are the reference's. -/
theorem gates_eq : gates a0 a1 a2 a5 a7 = Cert.Reference5Ideal.Read.val_main_v71 (F := Ideal) a0 a1 a2 a5 a7 := by
  funext y
  idx_vars y
  have h := ref_low_apply a0 a1 a2 a5 a7 y0 ⟨1024 + y1.val, by omega⟩
  rw [shifted_eq] at h
  refine h.symm.trans ?_
  unfold Cert.Reference5Ideal.Read.val_main_v71
  pointwise

end Specs

set_option maxHeartbeats 1000000 in
/-- The input projection computes what its reference computes. -/
theorem equation : algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    · obtain ⟨h0, h1, h2, h3, h4, h5, h6, h7, h8, h9, h10⟩ := hagree c
      rw [Cert.Reference5Ideal.Read.val_main_v27_eq, final_receptances, receptances_eq]
    · obtain ⟨h0, h1, h2, h3, h4, h5, h6, h7, h8, h9, h10⟩ := hagree c
      rw [Cert.Reference5Ideal.Read.val_main_v29_eq, final_values, values_eq]
    · obtain ⟨h0, h1, h2, h3, h4, h5, h6, h7, h8, h9, h10⟩ := hagree c
      rw [Cert.Reference5Ideal.Read.val_main_v41_eq, final_projections, projections_eq]
    · obtain ⟨h0, h1, h2, h3, h4, h5, h6, h7, h8, h9, h10⟩ := hagree c
      rw [Cert.Reference5Ideal.Read.val_main_v70_eq, h0, h1, h2, h5, h7, h8, h10, final_keys, keys_eq]
    · obtain ⟨h0, h1, h2, h3, h4, h5, h6, h7, h8, h9, h10⟩ := hagree c
      rw [Cert.Reference5Ideal.Read.val_main_v71_eq, h0, h1, h2, h5, h7, final_gates, gates_eq]

end Cert.Layer.Projection

end
-- ==== Proof.lean ====
/- Assembles the proof of `Cert.Claim`. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.AttentionEquation
public import proofs.«01_k».proof.Proof.FfnFinalEquation
public import proofs.«01_k».proof.Proof.MergeEquation
public import proofs.«01_k».proof.Proof.FfnFirstEquation
public import proofs.«01_k».proof.Proof.ProjectionEquation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every claim: each program ends with its arguments as they were, and each kernel computes its reference. -/
theorem claim : Cert.Claim := by
  refine ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts, ?_⟩
  refine ⟨fun m ρ _ => Cert.Kernel.Gen.frame m ρ, fun m ρ _ => Cert.KernelIdeal.Gen.frame m ρ, ?_,
    fun m ρ _ => Cert.Kernel2.Gen.frame m ρ, fun m ρ _ => Cert.Kernel2Ideal.Gen.frame m ρ, ?_,
    fun m ρ _ => Cert.Kernel3.Gen.frame m ρ, fun m ρ _ => Cert.Kernel3Ideal.Gen.frame m ρ, ?_,
    fun m ρ _ => Cert.Kernel4.Gen.frame m ρ, fun m ρ _ => Cert.Kernel4Ideal.Gen.frame m ρ, ?_,
    fun m ρ _ => Cert.Kernel5.Gen.frame m ρ, fun m ρ _ => Cert.Kernel5Ideal.Gen.frame m ρ, ?_,
    trivial, Layer.Attention.equation, trivial, Layer.Second.equation, trivial, Layer.Merge.equation, trivial,
    Layer.First.equation, trivial, Layer.Projection.equation⟩
  · exact fun m g _ => (θ_run _ _ _).mono (fun r h => ⟨fun c => (h c).2, sem_eq_zero_of_no_sems rfl r.2⟩)
      (Cert.ReferenceIdeal.Value.run m g)
  · exact fun m g _ => (θ_run _ _ _).mono (fun r h => ⟨fun c => (h c).2, sem_eq_zero_of_no_sems rfl r.2⟩)
      (Cert.Reference2Ideal.Value.run m g)
  · exact fun m g _ => (θ_run _ _ _).mono (fun r h => ⟨fun c => (h c).2, sem_eq_zero_of_no_sems rfl r.2⟩)
      (Cert.Reference3Ideal.Value.run m g)
  · exact fun m g _ => (θ_run _ _ _).mono (fun r h => ⟨fun c => (h c).2, sem_eq_zero_of_no_sems rfl r.2⟩)
      (Cert.Reference4Ideal.Value.run m g)
  · exact fun m g _ => (θ_run _ _ _).mono (fun r h => ⟨fun c => (h c).2.2.2.2.2, sem_eq_zero_of_no_sems rfl r.2⟩)
      (Cert.Reference5Ideal.Value.run m g)

end Cert.Proof

end
